-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_one_nearest_pre_finite [hKernelIdeal : Cert.KernelIdeal.Facts] [hReferenceIdeal : Cert.ReferenceIdeal.Facts] [hPre_finite : Cert.Pre_finite.Facts] [hOn_one_nearest : Cert.On_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 2, 256, 512]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨4, ![16, 2, 256, 512]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 2, 256, 512]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v102) i = v0 c i)
          ∧ (∀ i : (⟨4, ![16, 2, 256, 512]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v104) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_one_nearest_where_finite [hKernelIdeal : Cert.KernelIdeal.Facts] [hReferenceIdeal : Cert.ReferenceIdeal.Facts] [hOn_one_nearest_where_finite : Cert.On_one_nearest_where_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 2, 256, 512]⟩ : Shape).Idx, (Cert.On_one_nearest_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨4, ![16, 2, 256, 512]⟩ : Shape).Idx, (Cert.On_one_nearest_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 2, 256, 512]⟩ : Shape).Idx, (Cert.On_one_nearest_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v102) i = v0 c i)
          ∧ (∀ i : (⟨4, ![16, 2, 256, 512]⟩ : Shape).Idx, (Cert.On_one_nearest_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v104) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts) (hPre_finite : Cert.Pre_finite.Facts) (hOn_one_nearest : Cert.On_one_nearest.Facts) (hOn_one_nearest_where_finite : Cert.On_one_nearest_where_finite.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_KernelIdeal_pre_finite (hKernelIdeal := hKernelIdeal) (hPre_finite := hPre_finite)
    ∧ quiescent_ReferenceIdeal (hReferenceIdeal := hReferenceIdeal)
    ∧ quiescent_ReferenceIdeal_pre_separated (hReferenceIdeal := hReferenceIdeal) (hPre_separated := hPre_separated)
    ∧ quiescent_ReferenceIdeal_pre_finite (hReferenceIdeal := hReferenceIdeal) (hPre_finite := hPre_finite)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_ReferenceIdeal_on_one_nearest_pre_finite (hKernelIdeal := hKernelIdeal) (hReferenceIdeal := hReferenceIdeal) (hPre_finite := hPre_finite) (hOn_one_nearest := hOn_one_nearest)
    ∧ algebraic_KernelIdeal_ReferenceIdeal_on_one_nearest_where_finite (hKernelIdeal := hKernelIdeal) (hReferenceIdeal := hReferenceIdeal) (hOn_one_nearest_where_finite := hOn_one_nearest_where_finite)
-- ==== On_one_nearest.lean ====
abbrev S16x2x256x512 : Shape := ⟨4, ![16, 2, 256, 512]⟩
abbrev S4x1024x128 : Shape := ⟨3, ![4, 1024, 128]⟩
abbrev S16x512x512 : Shape := ⟨3, ![16, 512, 512]⟩
abbrev S16x128x512 : Shape := ⟨3, ![16, 128, 512]⟩
abbrev S1x1024x128 : Shape := ⟨3, ![1, 1024, 128]⟩
abbrev S1024x128 : Shape := ⟨2, ![1024, 128]⟩
abbrev S16x512x128 : Shape := ⟨3, ![16, 512, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x1024 : Shape := ⟨2, ![128, 1024]⟩
abbrev S8192x1024 : Shape := ⟨2, ![8192, 1024]⟩
abbrev S1024 : Shape := ⟨1, ![1024]⟩
abbrev S1x1024 : Shape := ⟨2, ![1, 1024]⟩
abbrev S16x1x512 : Shape := ⟨3, ![16, 1, 512]⟩

class Facts : Prop where
  shapeCasts_S16x2x256x512_S16x512x512 : S16x2x256x512.ShapeCasts S16x512x512
  slices_S16x512x512_S16x128x512_0_0_0 : S16x512x512.Slices ![0, 0, 0] S16x128x512
  slices_S16x512x512_S16x128x512_0_128_0 : S16x512x512.Slices ![0, 128, 0] S16x128x512
  slices_S16x512x512_S16x128x512_0_256_0 : S16x512x512.Slices ![0, 256, 0] S16x128x512
  slices_S16x512x512_S16x128x512_0_384_0 : S16x512x512.Slices ![0, 384, 0] S16x128x512
  slices_S4x1024x128_S1x1024x128_0_0_0 : S4x1024x128.Slices ![0, 0, 0] S1x1024x128
  shapeCasts_S1x1024x128_S1024x128 : S1x1024x128.ShapeCasts S1024x128
  transposes_S16x128x512_S16x512x128_0_2_1 : S16x128x512.Transposes [0, 2, 1] S16x512x128
  shapeCasts_S16x512x128_S8192x128 : S16x512x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x128 : S_.BroadcastsInDim S8192x128 (![] : Fin 0 → Fin S8192x128.rank)
  transposes_S1024x128_S128x1024_1_0 : S1024x128.Transposes [1, 0] S128x1024
  bcast_S8192x1_S8192x1024_0_1 : S8192x1.BroadcastsInDim S8192x1024 (![0, 1] : Fin 2 → Fin S8192x1024.rank)
  reducesTo_S1024x128_S1024_d1 : S1024x128.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  shapeCasts_S8192_S16x1x512 : S8192.ShapeCasts S16x1x512
  bcast_S16x1x512_S16x128x512_0_1_2 : S16x1x512.BroadcastsInDim S16x128x512 (![0, 1, 2] : Fin 3 → Fin S16x128x512.rank)
  slices_S4x1024x128_S1x1024x128_1_0_0 : S4x1024x128.Slices ![1, 0, 0] S1x1024x128
  slices_S4x1024x128_S1x1024x128_2_0_0 : S4x1024x128.Slices ![2, 0, 0] S1x1024x128
  slices_S4x1024x128_S1x1024x128_3_0_0 : S4x1024x128.Slices ![3, 0, 0] S1x1024x128
  concatenates_S16x128x512_S16x128x512_S16x128x512_S16x128x512_S16x512x512_d1 : Shape.Concatenates [S16x128x512, S16x128x512, S16x128x512, S16x128x512] S16x512x512 1
  shapeCasts_S16x512x512_S16x2x256x512 : S16x512x512.ShapeCasts S16x2x256x512
  dot_S8192x128_S128x1024_S8192x1024_1_0_0_1_n_n_wf : DotDims.WF S8192x128 S128x1024 S8192x1024 [1] [0] [0] [1] [] []

variable [Facts]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def fn_part5 {F : FTy → Type} [FloatOps F] (main_v32 : IVec S16x128x512 1) (main_v60 : IVec S16x128x512 1) (main_v88 : IVec S16x128x512 1) (main_v90 : FVec F S1024x128 .f32) (main_v95 : FVec F S8192x1 .f32) (main_v99 : FVec F S8192x1024 .f32) : IVec S16x2x256x512 1 × IVec S16x2x256x512 1 :=
  let main_v100 : FVec F S8192x1024 .f32 := broadcastInDim S8192x1024 ![0, 1] bcast_S8192x1_S8192x1024_0_1 main_v95
  let main_v101 : FVec F S8192x1024 .f32 := subf main_v100 main_v99
  let main_v102 : FVec F S1024x128 .f32 := mulf main_v90 main_v90
  let main_cst_18 : FVec F S_ .f32 := constant S_ .f32 0x00000000#32
  let main_v103 : FVec F S1024 .f32 := (fun x v => Host.reduceAdd x v reducesTo_S1024x128_S1024_d1 h_S_) main_v102 main_cst_18
  let main_v104 : FVec F S1x1024 .f32 := broadcastInDim S1x1024 ![1] bcast_S1024_S1x1024_1 main_v103
  let main_v105 : FVec F S8192x1024 .f32 := broadcastInDim S8192x1024 ![0, 1] bcast_S1x1024_S8192x1024_0_1 main_v104
  let main_v106 : FVec F S8192x1024 .f32 := addf main_v101 main_v105
  let main_cst_19 : FVec F S_ .f32 := constant S_ .f32 0x7F800000#32
  let main_v107 : FVec F S8192 .f32 := (fun x v => Host.reduce FloatOps.minimumf x v reducesTo_S8192x1024_S8192_d1 h_S_) main_v106 main_cst_19
  let main_v108 : FVec F S8192x1 .f32 := broadcastInDim S8192x1 ![0] bcast_S8192_S8192x1_0 main_v107
  let main_v109 : FVec F S8192x1024 .f32 := broadcastInDim S8192x1024 ![0, 1] bcast_S8192x1_S8192x1024_0_1 main_v108
  let main_v110 : IVec S8192x1024 1 := cmpf .oeq main_v106 main_v109
  let main_v111 : IVec S8192x1024 32 := (extui 32 · natLt_1_32) main_v110
  let main_c_20 : IVec S_ 32 := constantI S_ 32 0#32
  let main_v112 : IVec S8192 32 := (fun x v => Host.reduce IntOp.addi x v reducesTo_S8192x1024_S8192_d1 h_S_) main_v111 main_c_20
  let main_c_21 : IVec S_ 32 := constantI S_ 32 1#32
  let main_v113 : IVec S8192 32 := broadcastInDim S8192 ![] bcast_S_S8192 main_c_21
  let main_v114 : IVec S8192 1 := cmpi .eq main_v112 main_v113
  let main_v115 : IVec S16x1x512 1 := shapeCast S16x1x512 main_v114 shapeCasts_S8192_S16x1x512
  let main_v116 : IVec S16x128x512 1 := broadcastInDim S16x128x512 ![0, 1, 2] bcast_S16x1x512_S16x128x512_0_1_2 main_v115
  let main_v117 : IVec S16x512x512 1 := concatenate S16x512x512 1 [⟨S16x128x512, main_v32⟩, ⟨S16x128x512, main_v60⟩, ⟨S16x128x512, main_v88⟩, ⟨S16x128x512, main_v116⟩] concatenates_S16x128x512_S16x128x512_S16x128x512_S16x128x512_S16x512x512_d1
  let main_v118 : IVec S16x2x256x512 1 := shapeCast S16x2x256x512 main_v117 shapeCasts_S16x512x512_S16x2x256x512
  (main_v118, main_v118)

def fn_part4 {F : FTy → Type} [FloatOps F] (main_arg1 : FVec F S4x1024x128 .f32) (main_v4 : FVec F S16x128x512 .f32) (main_v32 : IVec S16x128x512 1) (main_v60 : IVec S16x128x512 1) (main_v78 : FVec F S8192x1024 .f32) (main_v79 : FVec F S8192 .f32) : IVec S16x2x256x512 1 × IVec S16x2x256x512 1 :=
  let main_v80 : FVec F S8192x1 .f32 := broadcastInDim S8192x1 ![0] bcast_S8192_S8192x1_0 main_v79
  let main_v81 : FVec F S8192x1024 .f32 := broadcastInDim S8192x1024 ![0, 1] bcast_S8192x1_S8192x1024_0_1 main_v80
  let main_v82 : IVec S8192x1024 1 := cmpf .oeq main_v78 main_v81
  let main_v83 : IVec S8192x1024 32 := (extui 32 · natLt_1_32) main_v82
  let main_c_14 : IVec S_ 32 := constantI S_ 32 0#32
  let main_v84 : IVec S8192 32 := (fun x v => Host.reduce IntOp.addi x v reducesTo_S8192x1024_S8192_d1 h_S_) main_v83 main_c_14
  let main_c_15 : IVec S_ 32 := constantI S_ 32 1#32
  let main_v85 : IVec S8192 32 := broadcastInDim S8192 ![] bcast_S_S8192 main_c_15
  let main_v86 : IVec S8192 1 := cmpi .eq main_v84 main_v85
  let main_v87 : IVec S16x1x512 1 := shapeCast S16x1x512 main_v86 shapeCasts_S8192_S16x1x512
  let main_v88 : IVec S16x128x512 1 := broadcastInDim S16x128x512 ![0, 1, 2] bcast_S16x1x512_S16x128x512_0_1_2 main_v87
  let main_v89 : FVec F S1x1024x128 .f32 := (extractStridedSlice S1x1024x128 ![3, 0, 0] · slices_S4x1024x128_S1x1024x128_3_0_0) main_arg1
  let main_v90 : FVec F S1024x128 .f32 := shapeCast S1024x128 main_v89 shapeCasts_S1x1024x128_S1024x128
  let main_v91 : FVec F S16x512x128 .f32 := (transpose S16x512x128 [0, 2, 1] · transposes_S16x128x512_S16x512x128_0_2_1) main_v4
  let main_v92 : FVec F S8192x128 .f32 := shapeCast S8192x128 main_v91 shapeCasts_S16x512x128_S8192x128
  let main_v93 : FVec F S8192x128 .f32 := mulf main_v92 main_v92
  let main_cst_16 : FVec F S_ .f32 := constant S_ .f32 0x00000000#32
  let main_v94 : FVec F S8192 .f32 := (fun x v => Host.reduceAdd x v reducesTo_S8192x128_S8192_d1 h_S_) main_v93 main_cst_16
  let main_v95 : FVec F S8192x1 .f32 := broadcastInDim S8192x1 ![0] bcast_S8192_S8192x1_0 main_v94
  let main_cst_17 : FVec F S_ .f32 := constant S_ .f32 0x40000000#32
  let main_v96 : FVec F S8192x128 .f32 := broadcastInDim S8192x128 ![] bcast_S_S8192x128 main_cst_17
  let main_v97 : FVec F S8192x128 .f32 := mulf main_v96 main_v92
  let main_v98 : FVec F S128x1024 .f32 := (transpose S128x1024 [1, 0] · transposes_S1024x128_S128x1024_1_0) main_v90
  let main_v99 : FVec F S8192x1024 .f32 := (fun l r => Host.dotGeneral dot_S8192x128_S128x1024_S8192x1024_1_0_0_1_n_n none l r) main_v97 main_v98
  fn_part5 (F := F) main_v32 main_v60 main_v88 main_v90 main_v95 main_v99

def fn_part3 {F : FTy → Type} [FloatOps F] (main_arg1 : FVec F S4x1024x128 .f32) (main_v3 : FVec F S16x128x512 .f32) (main_v4 : FVec F S16x128x512 .f32) (main_v32 : IVec S16x128x512 1) (main_v59 : IVec S16x1x512 1) : IVec S16x2x256x512 1 × IVec S16x2x256x512 1 :=
  let main_v60 : IVec S16x128x512 1 := broadcastInDim S16x128x512 ![0, 1, 2] bcast_S16x1x512_S16x128x512_0_1_2 main_v59
  let main_v61 : FVec F S1x1024x128 .f32 := (extractStridedSlice S1x1024x128 ![2, 0, 0] · slices_S4x1024x128_S1x1024x128_2_0_0) main_arg1
  let main_v62 : FVec F S1024x128 .f32 := shapeCast S1024x128 main_v61 shapeCasts_S1x1024x128_S1024x128
  let main_v63 : FVec F S16x512x128 .f32 := (transpose S16x512x128 [0, 2, 1] · transposes_S16x128x512_S16x512x128_0_2_1) main_v3
  let main_v64 : FVec F S8192x128 .f32 := shapeCast S8192x128 main_v63 shapeCasts_S16x512x128_S8192x128
  let main_v65 : FVec F S8192x128 .f32 := mulf main_v64 main_v64
  let main_cst_10 : FVec F S_ .f32 := constant S_ .f32 0x00000000#32
  let main_v66 : FVec F S8192 .f32 := (fun x v => Host.reduceAdd x v reducesTo_S8192x128_S8192_d1 h_S_) main_v65 main_cst_10
  let main_v67 : FVec F S8192x1 .f32 := broadcastInDim S8192x1 ![0] bcast_S8192_S8192x1_0 main_v66
  let main_cst_11 : FVec F S_ .f32 := constant S_ .f32 0x40000000#32
  let main_v68 : FVec F S8192x128 .f32 := broadcastInDim S8192x128 ![] bcast_S_S8192x128 main_cst_11
  let main_v69 : FVec F S8192x128 .f32 := mulf main_v68 main_v64
  let main_v70 : FVec F S128x1024 .f32 := (transpose S128x1024 [1, 0] · transposes_S1024x128_S128x1024_1_0) main_v62
  let main_v71 : FVec F S8192x1024 .f32 := (fun l r => Host.dotGeneral dot_S8192x128_S128x1024_S8192x1024_1_0_0_1_n_n none l r) main_v69 main_v70
  let main_v72 : FVec F S8192x1024 .f32 := broadcastInDim S8192x1024 ![0, 1] bcast_S8192x1_S8192x1024_0_1 main_v67
  let main_v73 : FVec F S8192x1024 .f32 := subf main_v72 main_v71
  let main_v74 : FVec F S1024x128 .f32 := mulf main_v62 main_v62
  let main_cst_12 : FVec F S_ .f32 := constant S_ .f32 0x00000000#32
  let main_v75 : FVec F S1024 .f32 := (fun x v => Host.reduceAdd x v reducesTo_S1024x128_S1024_d1 h_S_) main_v74 main_cst_12
  let main_v76 : FVec F S1x1024 .f32 := broadcastInDim S1x1024 ![1] bcast_S1024_S1x1024_1 main_v75
  let main_v77 : FVec F S8192x1024 .f32 := broadcastInDim S8192x1024 ![0, 1] bcast_S1x1024_S8192x1024_0_1 main_v76
  let main_v78 : FVec F S8192x1024 .f32 := addf main_v73 main_v77
  let main_cst_13 : FVec F S_ .f32 := constant S_ .f32 0x7F800000#32
  let main_v79 : FVec F S8192 .f32 := (fun x v => Host.reduce FloatOps.minimumf x v reducesTo_S8192x1024_S8192_d1 h_S_) main_v78 main_cst_13
  fn_part4 (F := F) main_arg1 main_v4 main_v32 main_v60 main_v78 main_v79

def fn_part2 {F : FTy → Type} [FloatOps F] (main_arg1 : FVec F S4x1024x128 .f32) (main_v3 : FVec F S16x128x512 .f32) (main_v4 : FVec F S16x128x512 .f32) (main_v32 : IVec S16x128x512 1) (main_v34 : FVec F S1024x128 .f32) (main_v36 : FVec F S8192x128 .f32) (main_v39 : FVec F S8192x1 .f32) (main_cst_5 : FVec F S_ .f32) : IVec S16x2x256x512 1 × IVec S16x2x256x512 1 :=
  let main_v40 : FVec F S8192x128 .f32 := broadcastInDim S8192x128 ![] bcast_S_S8192x128 main_cst_5
  let main_v41 : FVec F S8192x128 .f32 := mulf main_v40 main_v36
  let main_v42 : FVec F S128x1024 .f32 := (transpose S128x1024 [1, 0] · transposes_S1024x128_S128x1024_1_0) main_v34
  let main_v43 : FVec F S8192x1024 .f32 := (fun l r => Host.dotGeneral dot_S8192x128_S128x1024_S8192x1024_1_0_0_1_n_n none l r) main_v41 main_v42
  let main_v44 : FVec F S8192x1024 .f32 := broadcastInDim S8192x1024 ![0, 1] bcast_S8192x1_S8192x1024_0_1 main_v39
  let main_v45 : FVec F S8192x1024 .f32 := subf main_v44 main_v43
  let main_v46 : FVec F S1024x128 .f32 := mulf main_v34 main_v34
  let main_cst_6 : FVec F S_ .f32 := constant S_ .f32 0x00000000#32
  let main_v47 : FVec F S1024 .f32 := (fun x v => Host.reduceAdd x v reducesTo_S1024x128_S1024_d1 h_S_) main_v46 main_cst_6
  let main_v48 : FVec F S1x1024 .f32 := broadcastInDim S1x1024 ![1] bcast_S1024_S1x1024_1 main_v47
  let main_v49 : FVec F S8192x1024 .f32 := broadcastInDim S8192x1024 ![0, 1] bcast_S1x1024_S8192x1024_0_1 main_v48
  let main_v50 : FVec F S8192x1024 .f32 := addf main_v45 main_v49
  let main_cst_7 : FVec F S_ .f32 := constant S_ .f32 0x7F800000#32
  let main_v51 : FVec F S8192 .f32 := (fun x v => Host.reduce FloatOps.minimumf x v reducesTo_S8192x1024_S8192_d1 h_S_) main_v50 main_cst_7
  let main_v52 : FVec F S8192x1 .f32 := broadcastInDim S8192x1 ![0] bcast_S8192_S8192x1_0 main_v51
  let main_v53 : FVec F S8192x1024 .f32 := broadcastInDim S8192x1024 ![0, 1] bcast_S8192x1_S8192x1024_0_1 main_v52
  let main_v54 : IVec S8192x1024 1 := cmpf .oeq main_v50 main_v53
  let main_v55 : IVec S8192x1024 32 := (extui 32 · natLt_1_32) main_v54
  let main_c_8 : IVec S_ 32 := constantI S_ 32 0#32
  let main_v56 : IVec S8192 32 := (fun x v => Host.reduce IntOp.addi x v reducesTo_S8192x1024_S8192_d1 h_S_) main_v55 main_c_8
  let main_c_9 : IVec S_ 32 := constantI S_ 32 1#32
  let main_v57 : IVec S8192 32 := broadcastInDim S8192 ![] bcast_S_S8192 main_c_9
  let main_v58 : IVec S8192 1 := cmpi .eq main_v56 main_v57
  let main_v59 : IVec S16x1x512 1 := shapeCast S16x1x512 main_v58 shapeCasts_S8192_S16x1x512
  fn_part3 (F := F) main_arg1 main_v3 main_v4 main_v32 main_v59

def fn_part1 {F : FTy → Type} [FloatOps F] (main_arg1 : FVec F S4x1024x128 .f32) (main_v2 : FVec F S16x128x512 .f32) (main_v3 : FVec F S16x128x512 .f32) (main_v4 : FVec F S16x128x512 .f32) (main_v17 : FVec F S8192x1024 .f32) (main_v20 : FVec F S1x1024 .f32) : IVec S16x2x256x512 1 × IVec S16x2x256x512 1 :=
  let main_v21 : FVec F S8192x1024 .f32 := broadcastInDim S8192x1024 ![0, 1] bcast_S1x1024_S8192x1024_0_1 main_v20
  let main_v22 : FVec F S8192x1024 .f32 := addf main_v17 main_v21
  let main_cst_2 : FVec F S_ .f32 := constant S_ .f32 0x7F800000#32
  let main_v23 : FVec F S8192 .f32 := (fun x v => Host.reduce FloatOps.minimumf x v reducesTo_S8192x1024_S8192_d1 h_S_) main_v22 main_cst_2
  let main_v24 : FVec F S8192x1 .f32 := broadcastInDim S8192x1 ![0] bcast_S8192_S8192x1_0 main_v23
  let main_v25 : FVec F S8192x1024 .f32 := broadcastInDim S8192x1024 ![0, 1] bcast_S8192x1_S8192x1024_0_1 main_v24
  let main_v26 : IVec S8192x1024 1 := cmpf .oeq main_v22 main_v25
  let main_v27 : IVec S8192x1024 32 := (extui 32 · natLt_1_32) main_v26
  let main_c : IVec S_ 32 := constantI S_ 32 0#32
  let main_v28 : IVec S8192 32 := (fun x v => Host.reduce IntOp.addi x v reducesTo_S8192x1024_S8192_d1 h_S_) main_v27 main_c
  let main_c_3 : IVec S_ 32 := constantI S_ 32 1#32
  let main_v29 : IVec S8192 32 := broadcastInDim S8192 ![] bcast_S_S8192 main_c_3
  let main_v30 : IVec S8192 1 := cmpi .eq main_v28 main_v29
  let main_v31 : IVec S16x1x512 1 := shapeCast S16x1x512 main_v30 shapeCasts_S8192_S16x1x512
  let main_v32 : IVec S16x128x512 1 := broadcastInDim S16x128x512 ![0, 1, 2] bcast_S16x1x512_S16x128x512_0_1_2 main_v31
  let main_v33 : FVec F S1x1024x128 .f32 := (extractStridedSlice S1x1024x128 ![1, 0, 0] · slices_S4x1024x128_S1x1024x128_1_0_0) main_arg1
  let main_v34 : FVec F S1024x128 .f32 := shapeCast S1024x128 main_v33 shapeCasts_S1x1024x128_S1024x128
  let main_v35 : FVec F S16x512x128 .f32 := (transpose S16x512x128 [0, 2, 1] · transposes_S16x128x512_S16x512x128_0_2_1) main_v2
  let main_v36 : FVec F S8192x128 .f32 := shapeCast S8192x128 main_v35 shapeCasts_S16x512x128_S8192x128
  let main_v37 : FVec F S8192x128 .f32 := mulf main_v36 main_v36
  let main_cst_4 : FVec F S_ .f32 := constant S_ .f32 0x00000000#32
  let main_v38 : FVec F S8192 .f32 := (fun x v => Host.reduceAdd x v reducesTo_S8192x128_S8192_d1 h_S_) main_v37 main_cst_4
  let main_v39 : FVec F S8192x1 .f32 := broadcastInDim S8192x1 ![0] bcast_S8192_S8192x1_0 main_v38
  let main_cst_5 : FVec F S_ .f32 := constant S_ .f32 0x40000000#32
  fn_part2 (F := F) main_arg1 main_v3 main_v4 main_v32 main_v34 main_v36 main_v39 main_cst_5

def fn {F : FTy → Type} [FloatOps F] (main_arg0 : FVec F S16x2x256x512 .f32) (main_arg1 : FVec F S4x1024x128 .f32) : IVec S16x2x256x512 1 × IVec S16x2x256x512 1 :=
  let main_v0 : FVec F S16x512x512 .f32 := shapeCast S16x512x512 main_arg0 shapeCasts_S16x2x256x512_S16x512x512
  let main_v1 : FVec F S16x128x512 .f32 := (extractStridedSlice S16x128x512 ![0, 0, 0] · slices_S16x512x512_S16x128x512_0_0_0) main_v0
  let main_v2 : FVec F S16x128x512 .f32 := (extractStridedSlice S16x128x512 ![0, 128, 0] · slices_S16x512x512_S16x128x512_0_128_0) main_v0
  let main_v3 : FVec F S16x128x512 .f32 := (extractStridedSlice S16x128x512 ![0, 256, 0] · slices_S16x512x512_S16x128x512_0_256_0) main_v0
  let main_v4 : FVec F S16x128x512 .f32 := (extractStridedSlice S16x128x512 ![0, 384, 0] · slices_S16x512x512_S16x128x512_0_384_0) main_v0
  let main_v5 : FVec F S1x1024x128 .f32 := (extractStridedSlice S1x1024x128 ![0, 0, 0] · slices_S4x1024x128_S1x1024x128_0_0_0) main_arg1
  let main_v6 : FVec F S1024x128 .f32 := shapeCast S1024x128 main_v5 shapeCasts_S1x1024x128_S1024x128
  let main_v7 : FVec F S16x512x128 .f32 := (transpose S16x512x128 [0, 2, 1] · transposes_S16x128x512_S16x512x128_0_2_1) main_v1
  let main_v8 : FVec F S8192x128 .f32 := shapeCast S8192x128 main_v7 shapeCasts_S16x512x128_S8192x128
  let main_v9 : FVec F S8192x128 .f32 := mulf main_v8 main_v8
  let main_cst : FVec F S_ .f32 := constant S_ .f32 0x00000000#32
  let main_v10 : FVec F S8192 .f32 := (fun x v => Host.reduceAdd x v reducesTo_S8192x128_S8192_d1 h_S_) main_v9 main_cst
  let main_v11 : FVec F S8192x1 .f32 := broadcastInDim S8192x1 ![0] bcast_S8192_S8192x1_0 main_v10
  let main_cst_0 : FVec F S_ .f32 := constant S_ .f32 0x40000000#32
  let main_v12 : FVec F S8192x128 .f32 := broadcastInDim S8192x128 ![] bcast_S_S8192x128 main_cst_0
  let main_v13 : FVec F S8192x128 .f32 := mulf main_v12 main_v8
  let main_v14 : FVec F S128x1024 .f32 := (transpose S128x1024 [1, 0] · transposes_S1024x128_S128x1024_1_0) main_v6
  let main_v15 : FVec F S8192x1024 .f32 := (fun l r => Host.dotGeneral dot_S8192x128_S128x1024_S8192x1024_1_0_0_1_n_n none l r) main_v13 main_v14
  let main_v16 : FVec F S8192x1024 .f32 := broadcastInDim S8192x1024 ![0, 1] bcast_S8192x1_S8192x1024_0_1 main_v11
  let main_v17 : FVec F S8192x1024 .f32 := subf main_v16 main_v15
  let main_v18 : FVec F S1024x128 .f32 := mulf main_v6 main_v6
  let main_cst_1 : FVec F S_ .f32 := constant S_ .f32 0x00000000#32
  let main_v19 : FVec F S1024 .f32 := (fun x v => Host.reduceAdd x v reducesTo_S1024x128_S1024_d1 h_S_) main_v18 main_cst_1
  let main_v20 : FVec F S1x1024 .f32 := broadcastInDim S1x1024 ![1] bcast_S1024_S1x1024_1 main_v19
  fn_part1 (F := F) main_arg1 main_v2 main_v3 main_v4 main_v17 main_v20
-- ==== On_one_nearest_where_finite.lean ====
abbrev S16x2x256x512 : Shape := ⟨4, ![16, 2, 256, 512]⟩
abbrev S4x1024x128 : Shape := ⟨3, ![4, 1024, 128]⟩
abbrev S16x512x512 : Shape := ⟨3, ![16, 512, 512]⟩
abbrev S16x128x512 : Shape := ⟨3, ![16, 128, 512]⟩
abbrev S1x1024x128 : Shape := ⟨3, ![1, 1024, 128]⟩
abbrev S1024x128 : Shape := ⟨2, ![1024, 128]⟩
abbrev S16x512x128 : Shape := ⟨3, ![16, 512, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x1024 : Shape := ⟨2, ![128, 1024]⟩
abbrev S8192x1024 : Shape := ⟨2, ![8192, 1024]⟩
abbrev S1024 : Shape := ⟨1, ![1024]⟩
abbrev S1x1024 : Shape := ⟨2, ![1, 1024]⟩
abbrev S16x1x512 : Shape := ⟨3, ![16, 1, 512]⟩

class Facts : Prop where
  shapeCasts_S16x2x256x512_S16x512x512 : S16x2x256x512.ShapeCasts S16x512x512
  slices_S16x512x512_S16x128x512_0_0_0 : S16x512x512.Slices ![0, 0, 0] S16x128x512
  slices_S16x512x512_S16x128x512_0_128_0 : S16x512x512.Slices ![0, 128, 0] S16x128x512
  slices_S16x512x512_S16x128x512_0_256_0 : S16x512x512.Slices ![0, 256, 0] S16x128x512
  slices_S16x512x512_S16x128x512_0_384_0 : S16x512x512.Slices ![0, 384, 0] S16x128x512
  slices_S4x1024x128_S1x1024x128_0_0_0 : S4x1024x128.Slices ![0, 0, 0] S1x1024x128
  shapeCasts_S1x1024x128_S1024x128 : S1x1024x128.ShapeCasts S1024x128
  transposes_S16x128x512_S16x512x128_0_2_1 : S16x128x512.Transposes [0, 2, 1] S16x512x128
  shapeCasts_S16x512x128_S8192x128 : S16x512x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x128 : S_.BroadcastsInDim S8192x128 (![] : Fin 0 → Fin S8192x128.rank)
  transposes_S1024x128_S128x1024_1_0 : S1024x128.Transposes [1, 0] S128x1024
  bcast_S8192x1_S8192x1024_0_1 : S8192x1.BroadcastsInDim S8192x1024 (![0, 1] : Fin 2 → Fin S8192x1024.rank)
  reducesTo_S1024x128_S1024_d1 : S1024x128.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  shapeCasts_S8192_S16x1x512 : S8192.ShapeCasts S16x1x512
  bcast_S16x1x512_S16x128x512_0_1_2 : S16x1x512.BroadcastsInDim S16x128x512 (![0, 1, 2] : Fin 3 → Fin S16x128x512.rank)
  slices_S4x1024x128_S1x1024x128_1_0_0 : S4x1024x128.Slices ![1, 0, 0] S1x1024x128
  slices_S4x1024x128_S1x1024x128_2_0_0 : S4x1024x128.Slices ![2, 0, 0] S1x1024x128
  slices_S4x1024x128_S1x1024x128_3_0_0 : S4x1024x128.Slices ![3, 0, 0] S1x1024x128
  concatenates_S16x128x512_S16x128x512_S16x128x512_S16x128x512_S16x512x512_d1 : Shape.Concatenates [S16x128x512, S16x128x512, S16x128x512, S16x128x512] S16x512x512 1
  shapeCasts_S16x512x512_S16x2x256x512 : S16x512x512.ShapeCasts S16x2x256x512
  bcast_S_S16x2x256x512 : S_.BroadcastsInDim S16x2x256x512 (![] : Fin 0 → Fin S16x2x256x512.rank)
  dot_S8192x128_S128x1024_S8192x1024_1_0_0_1_n_n_wf : DotDims.WF S8192x128 S128x1024 S8192x1024 [1] [0] [0] [1] [] []

variable [Facts]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def fn_part6 {F : FTy → Type} [FloatOps F] (main_v118 : IVec S16x2x256x512 1) (main_v119 : FVec F S16x2x256x512 .f32) : IVec S16x2x256x512 1 × IVec S16x2x256x512 1 :=
  let main_cst_22 : FVec F S_ .f32 := constant S_ .f32 0x7F800000#32
  let main_v120 : FVec F S16x2x256x512 .f32 := broadcastInDim S16x2x256x512 ![] bcast_S_S16x2x256x512 main_cst_22
  let main_v121 : IVec S16x2x256x512 1 := cmpf .olt main_v119 main_v120
  let main_v122 : IVec S16x2x256x512 1 := andi main_v118 main_v121
  (main_v122, main_v118)

def fn_part5 {F : FTy → Type} [FloatOps F] (main_arg0 : FVec F S16x2x256x512 .f32) (main_v32 : IVec S16x128x512 1) (main_v60 : IVec S16x128x512 1) (main_v88 : IVec S16x128x512 1) (main_v90 : FVec F S1024x128 .f32) (main_v95 : FVec F S8192x1 .f32) (main_v99 : FVec F S8192x1024 .f32) : IVec S16x2x256x512 1 × IVec S16x2x256x512 1 :=
  let main_v100 : FVec F S8192x1024 .f32 := broadcastInDim S8192x1024 ![0, 1] bcast_S8192x1_S8192x1024_0_1 main_v95
  let main_v101 : FVec F S8192x1024 .f32 := subf main_v100 main_v99
  let main_v102 : FVec F S1024x128 .f32 := mulf main_v90 main_v90
  let main_cst_18 : FVec F S_ .f32 := constant S_ .f32 0x00000000#32
  let main_v103 : FVec F S1024 .f32 := (fun x v => Host.reduceAdd x v reducesTo_S1024x128_S1024_d1 h_S_) main_v102 main_cst_18
  let main_v104 : FVec F S1x1024 .f32 := broadcastInDim S1x1024 ![1] bcast_S1024_S1x1024_1 main_v103
  let main_v105 : FVec F S8192x1024 .f32 := broadcastInDim S8192x1024 ![0, 1] bcast_S1x1024_S8192x1024_0_1 main_v104
  let main_v106 : FVec F S8192x1024 .f32 := addf main_v101 main_v105
  let main_cst_19 : FVec F S_ .f32 := constant S_ .f32 0x7F800000#32
  let main_v107 : FVec F S8192 .f32 := (fun x v => Host.reduce FloatOps.minimumf x v reducesTo_S8192x1024_S8192_d1 h_S_) main_v106 main_cst_19
  let main_v108 : FVec F S8192x1 .f32 := broadcastInDim S8192x1 ![0] bcast_S8192_S8192x1_0 main_v107
  let main_v109 : FVec F S8192x1024 .f32 := broadcastInDim S8192x1024 ![0, 1] bcast_S8192x1_S8192x1024_0_1 main_v108
  let main_v110 : IVec S8192x1024 1 := cmpf .oeq main_v106 main_v109
  let main_v111 : IVec S8192x1024 32 := (extui 32 · natLt_1_32) main_v110
  let main_c_20 : IVec S_ 32 := constantI S_ 32 0#32
  let main_v112 : IVec S8192 32 := (fun x v => Host.reduce IntOp.addi x v reducesTo_S8192x1024_S8192_d1 h_S_) main_v111 main_c_20
  let main_c_21 : IVec S_ 32 := constantI S_ 32 1#32
  let main_v113 : IVec S8192 32 := broadcastInDim S8192 ![] bcast_S_S8192 main_c_21
  let main_v114 : IVec S8192 1 := cmpi .eq main_v112 main_v113
  let main_v115 : IVec S16x1x512 1 := shapeCast S16x1x512 main_v114 shapeCasts_S8192_S16x1x512
  let main_v116 : IVec S16x128x512 1 := broadcastInDim S16x128x512 ![0, 1, 2] bcast_S16x1x512_S16x128x512_0_1_2 main_v115
  let main_v117 : IVec S16x512x512 1 := concatenate S16x512x512 1 [⟨S16x128x512, main_v32⟩, ⟨S16x128x512, main_v60⟩, ⟨S16x128x512, main_v88⟩, ⟨S16x128x512, main_v116⟩] concatenates_S16x128x512_S16x128x512_S16x128x512_S16x128x512_S16x512x512_d1
  let main_v118 : IVec S16x2x256x512 1 := shapeCast S16x2x256x512 main_v117 shapeCasts_S16x512x512_S16x2x256x512
  let main_v119 : FVec F S16x2x256x512 .f32 := Host.absf main_arg0
  fn_part6 (F := F) main_v118 main_v119

def fn_part4 {F : FTy → Type} [FloatOps F] (main_arg0 : FVec F S16x2x256x512 .f32) (main_arg1 : FVec F S4x1024x128 .f32) (main_v4 : FVec F S16x128x512 .f32) (main_v32 : IVec S16x128x512 1) (main_v60 : IVec S16x128x512 1) (main_v78 : FVec F S8192x1024 .f32) (main_v79 : FVec F S8192 .f32) : IVec S16x2x256x512 1 × IVec S16x2x256x512 1 :=
  let main_v80 : FVec F S8192x1 .f32 := broadcastInDim S8192x1 ![0] bcast_S8192_S8192x1_0 main_v79
  let main_v81 : FVec F S8192x1024 .f32 := broadcastInDim S8192x1024 ![0, 1] bcast_S8192x1_S8192x1024_0_1 main_v80
  let main_v82 : IVec S8192x1024 1 := cmpf .oeq main_v78 main_v81
  let main_v83 : IVec S8192x1024 32 := (extui 32 · natLt_1_32) main_v82
  let main_c_14 : IVec S_ 32 := constantI S_ 32 0#32
  let main_v84 : IVec S8192 32 := (fun x v => Host.reduce IntOp.addi x v reducesTo_S8192x1024_S8192_d1 h_S_) main_v83 main_c_14
  let main_c_15 : IVec S_ 32 := constantI S_ 32 1#32
  let main_v85 : IVec S8192 32 := broadcastInDim S8192 ![] bcast_S_S8192 main_c_15
  let main_v86 : IVec S8192 1 := cmpi .eq main_v84 main_v85
  let main_v87 : IVec S16x1x512 1 := shapeCast S16x1x512 main_v86 shapeCasts_S8192_S16x1x512
  let main_v88 : IVec S16x128x512 1 := broadcastInDim S16x128x512 ![0, 1, 2] bcast_S16x1x512_S16x128x512_0_1_2 main_v87
  let main_v89 : FVec F S1x1024x128 .f32 := (extractStridedSlice S1x1024x128 ![3, 0, 0] · slices_S4x1024x128_S1x1024x128_3_0_0) main_arg1
  let main_v90 : FVec F S1024x128 .f32 := shapeCast S1024x128 main_v89 shapeCasts_S1x1024x128_S1024x128
  let main_v91 : FVec F S16x512x128 .f32 := (transpose S16x512x128 [0, 2, 1] · transposes_S16x128x512_S16x512x128_0_2_1) main_v4
  let main_v92 : FVec F S8192x128 .f32 := shapeCast S8192x128 main_v91 shapeCasts_S16x512x128_S8192x128
  let main_v93 : FVec F S8192x128 .f32 := mulf main_v92 main_v92
  let main_cst_16 : FVec F S_ .f32 := constant S_ .f32 0x00000000#32
  let main_v94 : FVec F S8192 .f32 := (fun x v => Host.reduceAdd x v reducesTo_S8192x128_S8192_d1 h_S_) main_v93 main_cst_16
  let main_v95 : FVec F S8192x1 .f32 := broadcastInDim S8192x1 ![0] bcast_S8192_S8192x1_0 main_v94
  let main_cst_17 : FVec F S_ .f32 := constant S_ .f32 0x40000000#32
  let main_v96 : FVec F S8192x128 .f32 := broadcastInDim S8192x128 ![] bcast_S_S8192x128 main_cst_17
  let main_v97 : FVec F S8192x128 .f32 := mulf main_v96 main_v92
  let main_v98 : FVec F S128x1024 .f32 := (transpose S128x1024 [1, 0] · transposes_S1024x128_S128x1024_1_0) main_v90
  let main_v99 : FVec F S8192x1024 .f32 := (fun l r => Host.dotGeneral dot_S8192x128_S128x1024_S8192x1024_1_0_0_1_n_n none l r) main_v97 main_v98
  fn_part5 (F := F) main_arg0 main_v32 main_v60 main_v88 main_v90 main_v95 main_v99

def fn_part3 {F : FTy → Type} [FloatOps F] (main_arg0 : FVec F S16x2x256x512 .f32) (main_arg1 : FVec F S4x1024x128 .f32) (main_v3 : FVec F S16x128x512 .f32) (main_v4 : FVec F S16x128x512 .f32) (main_v32 : IVec S16x128x512 1) (main_v59 : IVec S16x1x512 1) : IVec S16x2x256x512 1 × IVec S16x2x256x512 1 :=
  let main_v60 : IVec S16x128x512 1 := broadcastInDim S16x128x512 ![0, 1, 2] bcast_S16x1x512_S16x128x512_0_1_2 main_v59
  let main_v61 : FVec F S1x1024x128 .f32 := (extractStridedSlice S1x1024x128 ![2, 0, 0] · slices_S4x1024x128_S1x1024x128_2_0_0) main_arg1
  let main_v62 : FVec F S1024x128 .f32 := shapeCast S1024x128 main_v61 shapeCasts_S1x1024x128_S1024x128
  let main_v63 : FVec F S16x512x128 .f32 := (transpose S16x512x128 [0, 2, 1] · transposes_S16x128x512_S16x512x128_0_2_1) main_v3
  let main_v64 : FVec F S8192x128 .f32 := shapeCast S8192x128 main_v63 shapeCasts_S16x512x128_S8192x128
  let main_v65 : FVec F S8192x128 .f32 := mulf main_v64 main_v64
  let main_cst_10 : FVec F S_ .f32 := constant S_ .f32 0x00000000#32
  let main_v66 : FVec F S8192 .f32 := (fun x v => Host.reduceAdd x v reducesTo_S8192x128_S8192_d1 h_S_) main_v65 main_cst_10
  let main_v67 : FVec F S8192x1 .f32 := broadcastInDim S8192x1 ![0] bcast_S8192_S8192x1_0 main_v66
  let main_cst_11 : FVec F S_ .f32 := constant S_ .f32 0x40000000#32
  let main_v68 : FVec F S8192x128 .f32 := broadcastInDim S8192x128 ![] bcast_S_S8192x128 main_cst_11
  let main_v69 : FVec F S8192x128 .f32 := mulf main_v68 main_v64
  let main_v70 : FVec F S128x1024 .f32 := (transpose S128x1024 [1, 0] · transposes_S1024x128_S128x1024_1_0) main_v62
  let main_v71 : FVec F S8192x1024 .f32 := (fun l r => Host.dotGeneral dot_S8192x128_S128x1024_S8192x1024_1_0_0_1_n_n none l r) main_v69 main_v70
  let main_v72 : FVec F S8192x1024 .f32 := broadcastInDim S8192x1024 ![0, 1] bcast_S8192x1_S8192x1024_0_1 main_v67
  let main_v73 : FVec F S8192x1024 .f32 := subf main_v72 main_v71
  let main_v74 : FVec F S1024x128 .f32 := mulf main_v62 main_v62
  let main_cst_12 : FVec F S_ .f32 := constant S_ .f32 0x00000000#32
  let main_v75 : FVec F S1024 .f32 := (fun x v => Host.reduceAdd x v reducesTo_S1024x128_S1024_d1 h_S_) main_v74 main_cst_12
  let main_v76 : FVec F S1x1024 .f32 := broadcastInDim S1x1024 ![1] bcast_S1024_S1x1024_1 main_v75
  let main_v77 : FVec F S8192x1024 .f32 := broadcastInDim S8192x1024 ![0, 1] bcast_S1x1024_S8192x1024_0_1 main_v76
  let main_v78 : FVec F S8192x1024 .f32 := addf main_v73 main_v77
  let main_cst_13 : FVec F S_ .f32 := constant S_ .f32 0x7F800000#32
  let main_v79 : FVec F S8192 .f32 := (fun x v => Host.reduce FloatOps.minimumf x v reducesTo_S8192x1024_S8192_d1 h_S_) main_v78 main_cst_13
  fn_part4 (F := F) main_arg0 main_arg1 main_v4 main_v32 main_v60 main_v78 main_v79

def fn_part2 {F : FTy → Type} [FloatOps F] (main_arg0 : FVec F S16x2x256x512 .f32) (main_arg1 : FVec F S4x1024x128 .f32) (main_v3 : FVec F S16x128x512 .f32) (main_v4 : FVec F S16x128x512 .f32) (main_v32 : IVec S16x128x512 1) (main_v34 : FVec F S1024x128 .f32) (main_v36 : FVec F S8192x128 .f32) (main_v39 : FVec F S8192x1 .f32) (main_cst_5 : FVec F S_ .f32) : IVec S16x2x256x512 1 × IVec S16x2x256x512 1 :=
  let main_v40 : FVec F S8192x128 .f32 := broadcastInDim S8192x128 ![] bcast_S_S8192x128 main_cst_5
  let main_v41 : FVec F S8192x128 .f32 := mulf main_v40 main_v36
  let main_v42 : FVec F S128x1024 .f32 := (transpose S128x1024 [1, 0] · transposes_S1024x128_S128x1024_1_0) main_v34
  let main_v43 : FVec F S8192x1024 .f32 := (fun l r => Host.dotGeneral dot_S8192x128_S128x1024_S8192x1024_1_0_0_1_n_n none l r) main_v41 main_v42
  let main_v44 : FVec F S8192x1024 .f32 := broadcastInDim S8192x1024 ![0, 1] bcast_S8192x1_S8192x1024_0_1 main_v39
  let main_v45 : FVec F S8192x1024 .f32 := subf main_v44 main_v43
  let main_v46 : FVec F S1024x128 .f32 := mulf main_v34 main_v34
  let main_cst_6 : FVec F S_ .f32 := constant S_ .f32 0x00000000#32
  let main_v47 : FVec F S1024 .f32 := (fun x v => Host.reduceAdd x v reducesTo_S1024x128_S1024_d1 h_S_) main_v46 main_cst_6
  let main_v48 : FVec F S1x1024 .f32 := broadcastInDim S1x1024 ![1] bcast_S1024_S1x1024_1 main_v47
  let main_v49 : FVec F S8192x1024 .f32 := broadcastInDim S8192x1024 ![0, 1] bcast_S1x1024_S8192x1024_0_1 main_v48
  let main_v50 : FVec F S8192x1024 .f32 := addf main_v45 main_v49
  let main_cst_7 : FVec F S_ .f32 := constant S_ .f32 0x7F800000#32
  let main_v51 : FVec F S8192 .f32 := (fun x v => Host.reduce FloatOps.minimumf x v reducesTo_S8192x1024_S8192_d1 h_S_) main_v50 main_cst_7
  let main_v52 : FVec F S8192x1 .f32 := broadcastInDim S8192x1 ![0] bcast_S8192_S8192x1_0 main_v51
  let main_v53 : FVec F S8192x1024 .f32 := broadcastInDim S8192x1024 ![0, 1] bcast_S8192x1_S8192x1024_0_1 main_v52
  let main_v54 : IVec S8192x1024 1 := cmpf .oeq main_v50 main_v53
  let main_v55 : IVec S8192x1024 32 := (extui 32 · natLt_1_32) main_v54
  let main_c_8 : IVec S_ 32 := constantI S_ 32 0#32
  let main_v56 : IVec S8192 32 := (fun x v => Host.reduce IntOp.addi x v reducesTo_S8192x1024_S8192_d1 h_S_) main_v55 main_c_8
  let main_c_9 : IVec S_ 32 := constantI S_ 32 1#32
  let main_v57 : IVec S8192 32 := broadcastInDim S8192 ![] bcast_S_S8192 main_c_9
  let main_v58 : IVec S8192 1 := cmpi .eq main_v56 main_v57
  let main_v59 : IVec S16x1x512 1 := shapeCast S16x1x512 main_v58 shapeCasts_S8192_S16x1x512
  fn_part3 (F := F) main_arg0 main_arg1 main_v3 main_v4 main_v32 main_v59

def fn_part1 {F : FTy → Type} [FloatOps F] (main_arg0 : FVec F S16x2x256x512 .f32) (main_arg1 : FVec F S4x1024x128 .f32) (main_v2 : FVec F S16x128x512 .f32) (main_v3 : FVec F S16x128x512 .f32) (main_v4 : FVec F S16x128x512 .f32) (main_v17 : FVec F S8192x1024 .f32) (main_v20 : FVec F S1x1024 .f32) : IVec S16x2x256x512 1 × IVec S16x2x256x512 1 :=
  let main_v21 : FVec F S8192x1024 .f32 := broadcastInDim S8192x1024 ![0, 1] bcast_S1x1024_S8192x1024_0_1 main_v20
  let main_v22 : FVec F S8192x1024 .f32 := addf main_v17 main_v21
  let main_cst_2 : FVec F S_ .f32 := constant S_ .f32 0x7F800000#32
  let main_v23 : FVec F S8192 .f32 := (fun x v => Host.reduce FloatOps.minimumf x v reducesTo_S8192x1024_S8192_d1 h_S_) main_v22 main_cst_2
  let main_v24 : FVec F S8192x1 .f32 := broadcastInDim S8192x1 ![0] bcast_S8192_S8192x1_0 main_v23
  let main_v25 : FVec F S8192x1024 .f32 := broadcastInDim S8192x1024 ![0, 1] bcast_S8192x1_S8192x1024_0_1 main_v24
  let main_v26 : IVec S8192x1024 1 := cmpf .oeq main_v22 main_v25
  let main_v27 : IVec S8192x1024 32 := (extui 32 · natLt_1_32) main_v26
  let main_c : IVec S_ 32 := constantI S_ 32 0#32
  let main_v28 : IVec S8192 32 := (fun x v => Host.reduce IntOp.addi x v reducesTo_S8192x1024_S8192_d1 h_S_) main_v27 main_c
  let main_c_3 : IVec S_ 32 := constantI S_ 32 1#32
  let main_v29 : IVec S8192 32 := broadcastInDim S8192 ![] bcast_S_S8192 main_c_3
  let main_v30 : IVec S8192 1 := cmpi .eq main_v28 main_v29
  let main_v31 : IVec S16x1x512 1 := shapeCast S16x1x512 main_v30 shapeCasts_S8192_S16x1x512
  let main_v32 : IVec S16x128x512 1 := broadcastInDim S16x128x512 ![0, 1, 2] bcast_S16x1x512_S16x128x512_0_1_2 main_v31
  let main_v33 : FVec F S1x1024x128 .f32 := (extractStridedSlice S1x1024x128 ![1, 0, 0] · slices_S4x1024x128_S1x1024x128_1_0_0) main_arg1
  let main_v34 : FVec F S1024x128 .f32 := shapeCast S1024x128 main_v33 shapeCasts_S1x1024x128_S1024x128
  let main_v35 : FVec F S16x512x128 .f32 := (transpose S16x512x128 [0, 2, 1] · transposes_S16x128x512_S16x512x128_0_2_1) main_v2
  let main_v36 : FVec F S8192x128 .f32 := shapeCast S8192x128 main_v35 shapeCasts_S16x512x128_S8192x128
  let main_v37 : FVec F S8192x128 .f32 := mulf main_v36 main_v36
  let main_cst_4 : FVec F S_ .f32 := constant S_ .f32 0x00000000#32
  let main_v38 : FVec F S8192 .f32 := (fun x v => Host.reduceAdd x v reducesTo_S8192x128_S8192_d1 h_S_) main_v37 main_cst_4
  let main_v39 : FVec F S8192x1 .f32 := broadcastInDim S8192x1 ![0] bcast_S8192_S8192x1_0 main_v38
  let main_cst_5 : FVec F S_ .f32 := constant S_ .f32 0x40000000#32
  fn_part2 (F := F) main_arg0 main_arg1 main_v3 main_v4 main_v32 main_v34 main_v36 main_v39 main_cst_5

def fn {F : FTy → Type} [FloatOps F] (main_arg0 : FVec F S16x2x256x512 .f32) (main_arg1 : FVec F S4x1024x128 .f32) : IVec S16x2x256x512 1 × IVec S16x2x256x512 1 :=
  let main_v0 : FVec F S16x512x512 .f32 := shapeCast S16x512x512 main_arg0 shapeCasts_S16x2x256x512_S16x512x512
  let main_v1 : FVec F S16x128x512 .f32 := (extractStridedSlice S16x128x512 ![0, 0, 0] · slices_S16x512x512_S16x128x512_0_0_0) main_v0
  let main_v2 : FVec F S16x128x512 .f32 := (extractStridedSlice S16x128x512 ![0, 128, 0] · slices_S16x512x512_S16x128x512_0_128_0) main_v0
  let main_v3 : FVec F S16x128x512 .f32 := (extractStridedSlice S16x128x512 ![0, 256, 0] · slices_S16x512x512_S16x128x512_0_256_0) main_v0
  let main_v4 : FVec F S16x128x512 .f32 := (extractStridedSlice S16x128x512 ![0, 384, 0] · slices_S16x512x512_S16x128x512_0_384_0) main_v0
  let main_v5 : FVec F S1x1024x128 .f32 := (extractStridedSlice S1x1024x128 ![0, 0, 0] · slices_S4x1024x128_S1x1024x128_0_0_0) main_arg1
  let main_v6 : FVec F S1024x128 .f32 := shapeCast S1024x128 main_v5 shapeCasts_S1x1024x128_S1024x128
  let main_v7 : FVec F S16x512x128 .f32 := (transpose S16x512x128 [0, 2, 1] · transposes_S16x128x512_S16x512x128_0_2_1) main_v1
  let main_v8 : FVec F S8192x128 .f32 := shapeCast S8192x128 main_v7 shapeCasts_S16x512x128_S8192x128
  let main_v9 : FVec F S8192x128 .f32 := mulf main_v8 main_v8
  let main_cst : FVec F S_ .f32 := constant S_ .f32 0x00000000#32
  let main_v10 : FVec F S8192 .f32 := (fun x v => Host.reduceAdd x v reducesTo_S8192x128_S8192_d1 h_S_) main_v9 main_cst
  let main_v11 : FVec F S8192x1 .f32 := broadcastInDim S8192x1 ![0] bcast_S8192_S8192x1_0 main_v10
  let main_cst_0 : FVec F S_ .f32 := constant S_ .f32 0x40000000#32
  let main_v12 : FVec F S8192x128 .f32 := broadcastInDim S8192x128 ![] bcast_S_S8192x128 main_cst_0
  let main_v13 : FVec F S8192x128 .f32 := mulf main_v12 main_v8
  let main_v14 : FVec F S128x1024 .f32 := (transpose S128x1024 [1, 0] · transposes_S1024x128_S128x1024_1_0) main_v6
  let main_v15 : FVec F S8192x1024 .f32 := (fun l r => Host.dotGeneral dot_S8192x128_S128x1024_S8192x1024_1_0_0_1_n_n none l r) main_v13 main_v14
  let main_v16 : FVec F S8192x1024 .f32 := broadcastInDim S8192x1024 ![0, 1] bcast_S8192x1_S8192x1024_0_1 main_v11
  let main_v17 : FVec F S8192x1024 .f32 := subf main_v16 main_v15
  let main_v18 : FVec F S1024x128 .f32 := mulf main_v6 main_v6
  let main_cst_1 : FVec F S_ .f32 := constant S_ .f32 0x00000000#32
  let main_v19 : FVec F S1024 .f32 := (fun x v => Host.reduceAdd x v reducesTo_S1024x128_S1024_d1 h_S_) main_v18 main_cst_1
  let main_v20 : FVec F S1x1024 .f32 := broadcastInDim S1x1024 ![1] bcast_S1024_S1x1024_1 main_v19
  fn_part1 (F := F) main_arg0 main_arg1 main_v2 main_v3 main_v4 main_v17 main_v20
-- ==== Pre_finite.lean ====
abbrev S16x2x256x512 : Shape := ⟨4, ![16, 2, 256, 512]⟩
abbrev S4x1024x128 : Shape := ⟨3, ![4, 1024, 128]⟩
abbrev S_ : Shape := ⟨0, ![]⟩

class Facts : Prop where
  bcast_S_S16x2x256x512 : S_.BroadcastsInDim S16x2x256x512 (![] : Fin 0 → Fin S16x2x256x512.rank)
  reducesTo_S16x2x256x512_S_d0_1_2_3 : S16x2x256x512.ReducesTo [0, 1, 2, 3] S_
  h_S_ : 0 < S_.numel

variable [Facts]

def fn {F : FTy → Type} [FloatOps F] (main_arg0 : FVec F S16x2x256x512 .f32) (main_arg1 : FVec F S4x1024x128 .f32) : IVec S_ 1 :=
  let main_v0 : FVec F S16x2x256x512 .f32 := Host.absf main_arg0
  let main_cst : FVec F S_ .f32 := constant S_ .f32 0x7F800000#32
  let main_v1 : FVec F S16x2x256x512 .f32 := broadcastInDim S16x2x256x512 ![] bcast_S_S16x2x256x512 main_cst
  let main_v2 : IVec S16x2x256x512 1 := cmpf .olt main_v0 main_v1
  let main_c : IVec S_ 1 := constantI S_ 1 1#1
  let main_v3 : IVec S_ 1 := (fun x v => Host.reduce IntOp.andi x v reducesTo_S16x2x256x512_S_d0_1_2_3 h_S_) main_v2 main_c
  main_v3
-- ==== Pre_separated.lean ====
abbrev S16x2x256x512 : Shape := ⟨4, ![16, 2, 256, 512]⟩
abbrev S4x1024x128 : Shape := ⟨3, ![4, 1024, 128]⟩
abbrev S16x512x512 : Shape := ⟨3, ![16, 512, 512]⟩
abbrev S16x128x512 : Shape := ⟨3, ![16, 128, 512]⟩
abbrev S_ : Shape := ⟨0, ![]⟩
abbrev S1x1024x128 : Shape := ⟨3, ![1, 1024, 128]⟩
abbrev S1024x128 : Shape := ⟨2, ![1024, 128]⟩
abbrev S16x512x128 : Shape := ⟨3, ![16, 512, 128]⟩
abbrev S8192x128 : Shape := ⟨2, ![8192, 128]⟩
abbrev S8192 : Shape := ⟨1, ![8192]⟩
abbrev S8192x1 : Shape := ⟨2, ![8192, 1]⟩
abbrev S128x1024 : Shape := ⟨2, ![128, 1024]⟩
abbrev S8192x1024 : Shape := ⟨2, ![8192, 1024]⟩
abbrev S1024 : Shape := ⟨1, ![1024]⟩
abbrev S1x1024 : Shape := ⟨2, ![1, 1024]⟩

class Facts : Prop where
  shapeCasts_S16x2x256x512_S16x512x512 : S16x2x256x512.ShapeCasts S16x512x512
  slices_S16x512x512_S16x128x512_0_0_0 : S16x512x512.Slices ![0, 0, 0] S16x128x512
  slices_S16x512x512_S16x128x512_0_128_0 : S16x512x512.Slices ![0, 128, 0] S16x128x512
  slices_S16x512x512_S16x128x512_0_256_0 : S16x512x512.Slices ![0, 256, 0] S16x128x512
  slices_S16x512x512_S16x128x512_0_384_0 : S16x512x512.Slices ![0, 384, 0] S16x128x512
  bcast_S_S16x2x256x512 : S_.BroadcastsInDim S16x2x256x512 (![] : Fin 0 → Fin S16x2x256x512.rank)
  reducesTo_S16x2x256x512_S_d0_1_2_3 : S16x2x256x512.ReducesTo [0, 1, 2, 3] S_
  h_S_ : 0 < S_.numel
  slices_S4x1024x128_S1x1024x128_0_0_0 : S4x1024x128.Slices ![0, 0, 0] S1x1024x128
  shapeCasts_S1x1024x128_S1024x128 : S1x1024x128.ShapeCasts S1024x128
  transposes_S16x128x512_S16x512x128_0_2_1 : S16x128x512.Transposes [0, 2, 1] S16x512x128
  shapeCasts_S16x512x128_S8192x128 : S16x512x128.ShapeCasts S8192x128
  reducesTo_S8192x128_S8192_d1 : S8192x128.ReducesTo [1] S8192
  bcast_S8192_S8192x1_0 : S8192.BroadcastsInDim S8192x1 (![0] : Fin 1 → Fin S8192x1.rank)
  bcast_S_S8192x128 : S_.BroadcastsInDim S8192x128 (![] : Fin 0 → Fin S8192x128.rank)
  transposes_S1024x128_S128x1024_1_0 : S1024x128.Transposes [1, 0] S128x1024
  bcast_S8192x1_S8192x1024_0_1 : S8192x1.BroadcastsInDim S8192x1024 (![0, 1] : Fin 2 → Fin S8192x1024.rank)
  reducesTo_S1024x128_S1024_d1 : S1024x128.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  reducesTo_S8192_S_d0 : S8192.ReducesTo [0] S_
  slices_S4x1024x128_S1x1024x128_1_0_0 : S4x1024x128.Slices ![1, 0, 0] S1x1024x128
  slices_S4x1024x128_S1x1024x128_2_0_0 : S4x1024x128.Slices ![2, 0, 0] S1x1024x128
  slices_S4x1024x128_S1x1024x128_3_0_0 : S4x1024x128.Slices ![3, 0, 0] S1x1024x128
  dot_S8192x128_S128x1024_S8192x1024_1_0_0_1_n_n_wf : DotDims.WF S8192x128 S128x1024 S8192x1024 [1] [0] [0] [1] [] []

variable [Facts]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def fn_part6 {F : FTy → Type} [FloatOps F] (main_v92 : IVec S_ 1) (main_v115 : IVec S8192x1024 32) (main_c_25 : IVec S_ 32) : IVec S_ 1 :=
  let main_v116 : IVec S8192 32 := (fun x v => Host.reduce IntOp.addi x v reducesTo_S8192x1024_S8192_d1 h_S_) main_v115 main_c_25
  let main_c_26 : IVec S_ 32 := constantI S_ 32 1#32
  let main_v117 : IVec S8192 32 := broadcastInDim S8192 ![] bcast_S_S8192 main_c_26
  let main_v118 : IVec S8192 1 := cmpi .eq main_v116 main_v117
  let main_c_27 : IVec S_ 1 := constantI S_ 1 1#1
  let main_v119 : IVec S_ 1 := (fun x v => Host.reduce IntOp.andi x v reducesTo_S8192_S_d0 h_S_) main_v118 main_c_27
  let main_v120 : IVec S_ 1 := andi main_v92 main_v119
  main_v120

def fn_part5 {F : FTy → Type} [FloatOps F] (main_v92 : IVec S_ 1) (main_v94 : FVec F S1024x128 .f32) (main_v96 : FVec F S8192x128 .f32) : IVec S_ 1 :=
  let main_v97 : FVec F S8192x128 .f32 := mulf main_v96 main_v96
  let main_cst_21 : FVec F S_ .f32 := constant S_ .f32 0x00000000#32
  let main_v98 : FVec F S8192 .f32 := (fun x v => Host.reduceAdd x v reducesTo_S8192x128_S8192_d1 h_S_) main_v97 main_cst_21
  let main_v99 : FVec F S8192x1 .f32 := broadcastInDim S8192x1 ![0] bcast_S8192_S8192x1_0 main_v98
  let main_cst_22 : FVec F S_ .f32 := constant S_ .f32 0x40000000#32
  let main_v100 : FVec F S8192x128 .f32 := broadcastInDim S8192x128 ![] bcast_S_S8192x128 main_cst_22
  let main_v101 : FVec F S8192x128 .f32 := mulf main_v100 main_v96
  let main_v102 : FVec F S128x1024 .f32 := (transpose S128x1024 [1, 0] · transposes_S1024x128_S128x1024_1_0) main_v94
  let main_v103 : FVec F S8192x1024 .f32 := (fun l r => Host.dotGeneral dot_S8192x128_S128x1024_S8192x1024_1_0_0_1_n_n none l r) main_v101 main_v102
  let main_v104 : FVec F S8192x1024 .f32 := broadcastInDim S8192x1024 ![0, 1] bcast_S8192x1_S8192x1024_0_1 main_v99
  let main_v105 : FVec F S8192x1024 .f32 := subf main_v104 main_v103
  let main_v106 : FVec F S1024x128 .f32 := mulf main_v94 main_v94
  let main_cst_23 : FVec F S_ .f32 := constant S_ .f32 0x00000000#32
  let main_v107 : FVec F S1024 .f32 := (fun x v => Host.reduceAdd x v reducesTo_S1024x128_S1024_d1 h_S_) main_v106 main_cst_23
  let main_v108 : FVec F S1x1024 .f32 := broadcastInDim S1x1024 ![1] bcast_S1024_S1x1024_1 main_v107
  let main_v109 : FVec F S8192x1024 .f32 := broadcastInDim S8192x1024 ![0, 1] bcast_S1x1024_S8192x1024_0_1 main_v108
  let main_v110 : FVec F S8192x1024 .f32 := addf main_v105 main_v109
  let main_cst_24 : FVec F S_ .f32 := constant S_ .f32 0x7F800000#32
  let main_v111 : FVec F S8192 .f32 := (fun x v => Host.reduce FloatOps.minimumf x v reducesTo_S8192x1024_S8192_d1 h_S_) main_v110 main_cst_24
  let main_v112 : FVec F S8192x1 .f32 := broadcastInDim S8192x1 ![0] bcast_S8192_S8192x1_0 main_v111
  let main_v113 : FVec F S8192x1024 .f32 := broadcastInDim S8192x1024 ![0, 1] bcast_S8192x1_S8192x1024_0_1 main_v112
  let main_v114 : IVec S8192x1024 1 := cmpf .oeq main_v110 main_v113
  let main_v115 : IVec S8192x1024 32 := (extui 32 · natLt_1_32) main_v114
  let main_c_25 : IVec S_ 32 := constantI S_ 32 0#32
  fn_part6 (F := F) main_v92 main_v115 main_c_25

def fn_part4 {F : FTy → Type} [FloatOps F] (main_arg1 : FVec F S4x1024x128 .f32) (main_v4 : FVec F S16x128x512 .f32) (main_v64 : IVec S_ 1) (main_v66 : FVec F S1024x128 .f32) (main_v77 : FVec F S8192x1024 .f32) : IVec S_ 1 :=
  let main_v78 : FVec F S1024x128 .f32 := mulf main_v66 main_v66
  let main_cst_16 : FVec F S_ .f32 := constant S_ .f32 0x00000000#32
  let main_v79 : FVec F S1024 .f32 := (fun x v => Host.reduceAdd x v reducesTo_S1024x128_S1024_d1 h_S_) main_v78 main_cst_16
  let main_v80 : FVec F S1x1024 .f32 := broadcastInDim S1x1024 ![1] bcast_S1024_S1x1024_1 main_v79
  let main_v81 : FVec F S8192x1024 .f32 := broadcastInDim S8192x1024 ![0, 1] bcast_S1x1024_S8192x1024_0_1 main_v80
  let main_v82 : FVec F S8192x1024 .f32 := addf main_v77 main_v81
  let main_cst_17 : FVec F S_ .f32 := constant S_ .f32 0x7F800000#32
  let main_v83 : FVec F S8192 .f32 := (fun x v => Host.reduce FloatOps.minimumf x v reducesTo_S8192x1024_S8192_d1 h_S_) main_v82 main_cst_17
  let main_v84 : FVec F S8192x1 .f32 := broadcastInDim S8192x1 ![0] bcast_S8192_S8192x1_0 main_v83
  let main_v85 : FVec F S8192x1024 .f32 := broadcastInDim S8192x1024 ![0, 1] bcast_S8192x1_S8192x1024_0_1 main_v84
  let main_v86 : IVec S8192x1024 1 := cmpf .oeq main_v82 main_v85
  let main_v87 : IVec S8192x1024 32 := (extui 32 · natLt_1_32) main_v86
  let main_c_18 : IVec S_ 32 := constantI S_ 32 0#32
  let main_v88 : IVec S8192 32 := (fun x v => Host.reduce IntOp.addi x v reducesTo_S8192x1024_S8192_d1 h_S_) main_v87 main_c_18
  let main_c_19 : IVec S_ 32 := constantI S_ 32 1#32
  let main_v89 : IVec S8192 32 := broadcastInDim S8192 ![] bcast_S_S8192 main_c_19
  let main_v90 : IVec S8192 1 := cmpi .eq main_v88 main_v89
  let main_c_20 : IVec S_ 1 := constantI S_ 1 1#1
  let main_v91 : IVec S_ 1 := (fun x v => Host.reduce IntOp.andi x v reducesTo_S8192_S_d0 h_S_) main_v90 main_c_20
  let main_v92 : IVec S_ 1 := andi main_v64 main_v91
  let main_v93 : FVec F S1x1024x128 .f32 := (extractStridedSlice S1x1024x128 ![3, 0, 0] · slices_S4x1024x128_S1x1024x128_3_0_0) main_arg1
  let main_v94 : FVec F S1024x128 .f32 := shapeCast S1024x128 main_v93 shapeCasts_S1x1024x128_S1024x128
  let main_v95 : FVec F S16x512x128 .f32 := (transpose S16x512x128 [0, 2, 1] · transposes_S16x128x512_S16x512x128_0_2_1) main_v4
  let main_v96 : FVec F S8192x128 .f32 := shapeCast S8192x128 main_v95 shapeCasts_S16x512x128_S8192x128
  fn_part5 (F := F) main_v92 main_v94 main_v96

def fn_part3 {F : FTy → Type} [FloatOps F] (main_arg1 : FVec F S4x1024x128 .f32) (main_v3 : FVec F S16x128x512 .f32) (main_v4 : FVec F S16x128x512 .f32) (main_v36 : IVec S_ 1) (main_v58 : IVec S8192x1024 1) : IVec S_ 1 :=
  let main_v59 : IVec S8192x1024 32 := (extui 32 · natLt_1_32) main_v58
  let main_c_11 : IVec S_ 32 := constantI S_ 32 0#32
  let main_v60 : IVec S8192 32 := (fun x v => Host.reduce IntOp.addi x v reducesTo_S8192x1024_S8192_d1 h_S_) main_v59 main_c_11
  let main_c_12 : IVec S_ 32 := constantI S_ 32 1#32
  let main_v61 : IVec S8192 32 := broadcastInDim S8192 ![] bcast_S_S8192 main_c_12
  let main_v62 : IVec S8192 1 := cmpi .eq main_v60 main_v61
  let main_c_13 : IVec S_ 1 := constantI S_ 1 1#1
  let main_v63 : IVec S_ 1 := (fun x v => Host.reduce IntOp.andi x v reducesTo_S8192_S_d0 h_S_) main_v62 main_c_13
  let main_v64 : IVec S_ 1 := andi main_v36 main_v63
  let main_v65 : FVec F S1x1024x128 .f32 := (extractStridedSlice S1x1024x128 ![2, 0, 0] · slices_S4x1024x128_S1x1024x128_2_0_0) main_arg1
  let main_v66 : FVec F S1024x128 .f32 := shapeCast S1024x128 main_v65 shapeCasts_S1x1024x128_S1024x128
  let main_v67 : FVec F S16x512x128 .f32 := (transpose S16x512x128 [0, 2, 1] · transposes_S16x128x512_S16x512x128_0_2_1) main_v3
  let main_v68 : FVec F S8192x128 .f32 := shapeCast S8192x128 main_v67 shapeCasts_S16x512x128_S8192x128
  let main_v69 : FVec F S8192x128 .f32 := mulf main_v68 main_v68
  let main_cst_14 : FVec F S_ .f32 := constant S_ .f32 0x00000000#32
  let main_v70 : FVec F S8192 .f32 := (fun x v => Host.reduceAdd x v reducesTo_S8192x128_S8192_d1 h_S_) main_v69 main_cst_14
  let main_v71 : FVec F S8192x1 .f32 := broadcastInDim S8192x1 ![0] bcast_S8192_S8192x1_0 main_v70
  let main_cst_15 : FVec F S_ .f32 := constant S_ .f32 0x40000000#32
  let main_v72 : FVec F S8192x128 .f32 := broadcastInDim S8192x128 ![] bcast_S_S8192x128 main_cst_15
  let main_v73 : FVec F S8192x128 .f32 := mulf main_v72 main_v68
  let main_v74 : FVec F S128x1024 .f32 := (transpose S128x1024 [1, 0] · transposes_S1024x128_S128x1024_1_0) main_v66
  let main_v75 : FVec F S8192x1024 .f32 := (fun l r => Host.dotGeneral dot_S8192x128_S128x1024_S8192x1024_1_0_0_1_n_n none l r) main_v73 main_v74
  let main_v76 : FVec F S8192x1024 .f32 := broadcastInDim S8192x1024 ![0, 1] bcast_S8192x1_S8192x1024_0_1 main_v71
  let main_v77 : FVec F S8192x1024 .f32 := subf main_v76 main_v75
  fn_part4 (F := F) main_arg1 main_v4 main_v64 main_v66 main_v77

def fn_part2 {F : FTy → Type} [FloatOps F] (main_arg1 : FVec F S4x1024x128 .f32) (main_v2 : FVec F S16x128x512 .f32) (main_v3 : FVec F S16x128x512 .f32) (main_v4 : FVec F S16x128x512 .f32) (main_v36 : IVec S_ 1) (main_v38 : FVec F S1024x128 .f32) : IVec S_ 1 :=
  let main_v39 : FVec F S16x512x128 .f32 := (transpose S16x512x128 [0, 2, 1] · transposes_S16x128x512_S16x512x128_0_2_1) main_v2
  let main_v40 : FVec F S8192x128 .f32 := shapeCast S8192x128 main_v39 shapeCasts_S16x512x128_S8192x128
  let main_v41 : FVec F S8192x128 .f32 := mulf main_v40 main_v40
  let main_cst_7 : FVec F S_ .f32 := constant S_ .f32 0x00000000#32
  let main_v42 : FVec F S8192 .f32 := (fun x v => Host.reduceAdd x v reducesTo_S8192x128_S8192_d1 h_S_) main_v41 main_cst_7
  let main_v43 : FVec F S8192x1 .f32 := broadcastInDim S8192x1 ![0] bcast_S8192_S8192x1_0 main_v42
  let main_cst_8 : FVec F S_ .f32 := constant S_ .f32 0x40000000#32
  let main_v44 : FVec F S8192x128 .f32 := broadcastInDim S8192x128 ![] bcast_S_S8192x128 main_cst_8
  let main_v45 : FVec F S8192x128 .f32 := mulf main_v44 main_v40
  let main_v46 : FVec F S128x1024 .f32 := (transpose S128x1024 [1, 0] · transposes_S1024x128_S128x1024_1_0) main_v38
  let main_v47 : FVec F S8192x1024 .f32 := (fun l r => Host.dotGeneral dot_S8192x128_S128x1024_S8192x1024_1_0_0_1_n_n none l r) main_v45 main_v46
  let main_v48 : FVec F S8192x1024 .f32 := broadcastInDim S8192x1024 ![0, 1] bcast_S8192x1_S8192x1024_0_1 main_v43
  let main_v49 : FVec F S8192x1024 .f32 := subf main_v48 main_v47
  let main_v50 : FVec F S1024x128 .f32 := mulf main_v38 main_v38
  let main_cst_9 : FVec F S_ .f32 := constant S_ .f32 0x00000000#32
  let main_v51 : FVec F S1024 .f32 := (fun x v => Host.reduceAdd x v reducesTo_S1024x128_S1024_d1 h_S_) main_v50 main_cst_9
  let main_v52 : FVec F S1x1024 .f32 := broadcastInDim S1x1024 ![1] bcast_S1024_S1x1024_1 main_v51
  let main_v53 : FVec F S8192x1024 .f32 := broadcastInDim S8192x1024 ![0, 1] bcast_S1x1024_S8192x1024_0_1 main_v52
  let main_v54 : FVec F S8192x1024 .f32 := addf main_v49 main_v53
  let main_cst_10 : FVec F S_ .f32 := constant S_ .f32 0x7F800000#32
  let main_v55 : FVec F S8192 .f32 := (fun x v => Host.reduce FloatOps.minimumf x v reducesTo_S8192x1024_S8192_d1 h_S_) main_v54 main_cst_10
  let main_v56 : FVec F S8192x1 .f32 := broadcastInDim S8192x1 ![0] bcast_S8192_S8192x1_0 main_v55
  let main_v57 : FVec F S8192x1024 .f32 := broadcastInDim S8192x1024 ![0, 1] bcast_S8192x1_S8192x1024_0_1 main_v56
  let main_v58 : IVec S8192x1024 1 := cmpf .oeq main_v54 main_v57
  fn_part3 (F := F) main_arg1 main_v3 main_v4 main_v36 main_v58

def fn_part1 {F : FTy → Type} [FloatOps F] (main_arg1 : FVec F S4x1024x128 .f32) (main_v2 : FVec F S16x128x512 .f32) (main_v3 : FVec F S16x128x512 .f32) (main_v4 : FVec F S16x128x512 .f32) (main_v8 : IVec S_ 1) (main_v10 : FVec F S1024x128 .f32) (main_v15 : FVec F S8192x1 .f32) (main_v19 : FVec F S8192x1024 .f32) : IVec S_ 1 :=
  let main_v20 : FVec F S8192x1024 .f32 := broadcastInDim S8192x1024 ![0, 1] bcast_S8192x1_S8192x1024_0_1 main_v15
  let main_v21 : FVec F S8192x1024 .f32 := subf main_v20 main_v19
  let main_v22 : FVec F S1024x128 .f32 := mulf main_v10 main_v10
  let main_cst_2 : FVec F S_ .f32 := constant S_ .f32 0x00000000#32
  let main_v23 : FVec F S1024 .f32 := (fun x v => Host.reduceAdd x v reducesTo_S1024x128_S1024_d1 h_S_) main_v22 main_cst_2
  let main_v24 : FVec F S1x1024 .f32 := broadcastInDim S1x1024 ![1] bcast_S1024_S1x1024_1 main_v23
  let main_v25 : FVec F S8192x1024 .f32 := broadcastInDim S8192x1024 ![0, 1] bcast_S1x1024_S8192x1024_0_1 main_v24
  let main_v26 : FVec F S8192x1024 .f32 := addf main_v21 main_v25
  let main_cst_3 : FVec F S_ .f32 := constant S_ .f32 0x7F800000#32
  let main_v27 : FVec F S8192 .f32 := (fun x v => Host.reduce FloatOps.minimumf x v reducesTo_S8192x1024_S8192_d1 h_S_) main_v26 main_cst_3
  let main_v28 : FVec F S8192x1 .f32 := broadcastInDim S8192x1 ![0] bcast_S8192_S8192x1_0 main_v27
  let main_v29 : FVec F S8192x1024 .f32 := broadcastInDim S8192x1024 ![0, 1] bcast_S8192x1_S8192x1024_0_1 main_v28
  let main_v30 : IVec S8192x1024 1 := cmpf .oeq main_v26 main_v29
  let main_v31 : IVec S8192x1024 32 := (extui 32 · natLt_1_32) main_v30
  let main_c_4 : IVec S_ 32 := constantI S_ 32 0#32
  let main_v32 : IVec S8192 32 := (fun x v => Host.reduce IntOp.addi x v reducesTo_S8192x1024_S8192_d1 h_S_) main_v31 main_c_4
  let main_c_5 : IVec S_ 32 := constantI S_ 32 1#32
  let main_v33 : IVec S8192 32 := broadcastInDim S8192 ![] bcast_S_S8192 main_c_5
  let main_v34 : IVec S8192 1 := cmpi .eq main_v32 main_v33
  let main_c_6 : IVec S_ 1 := constantI S_ 1 1#1
  let main_v35 : IVec S_ 1 := (fun x v => Host.reduce IntOp.andi x v reducesTo_S8192_S_d0 h_S_) main_v34 main_c_6
  let main_v36 : IVec S_ 1 := andi main_v8 main_v35
  let main_v37 : FVec F S1x1024x128 .f32 := (extractStridedSlice S1x1024x128 ![1, 0, 0] · slices_S4x1024x128_S1x1024x128_1_0_0) main_arg1
  let main_v38 : FVec F S1024x128 .f32 := shapeCast S1024x128 main_v37 shapeCasts_S1x1024x128_S1024x128
  fn_part2 (F := F) main_arg1 main_v2 main_v3 main_v4 main_v36 main_v38

def fn {F : FTy → Type} [FloatOps F] (main_arg0 : FVec F S16x2x256x512 .f32) (main_arg1 : FVec F S4x1024x128 .f32) : IVec S_ 1 :=
  let main_v0 : FVec F S16x512x512 .f32 := shapeCast S16x512x512 main_arg0 shapeCasts_S16x2x256x512_S16x512x512
  let main_v1 : FVec F S16x128x512 .f32 := (extractStridedSlice S16x128x512 ![0, 0, 0] · slices_S16x512x512_S16x128x512_0_0_0) main_v0
  let main_v2 : FVec F S16x128x512 .f32 := (extractStridedSlice S16x128x512 ![0, 128, 0] · slices_S16x512x512_S16x128x512_0_128_0) main_v0
  let main_v3 : FVec F S16x128x512 .f32 := (extractStridedSlice S16x128x512 ![0, 256, 0] · slices_S16x512x512_S16x128x512_0_256_0) main_v0
  let main_v4 : FVec F S16x128x512 .f32 := (extractStridedSlice S16x128x512 ![0, 384, 0] · slices_S16x512x512_S16x128x512_0_384_0) main_v0
  let main_v5 : FVec F S16x2x256x512 .f32 := Host.absf main_arg0
  let main_cst : FVec F S_ .f32 := constant S_ .f32 0x7F800000#32
  let main_v6 : FVec F S16x2x256x512 .f32 := broadcastInDim S16x2x256x512 ![] bcast_S_S16x2x256x512 main_cst
  let main_v7 : IVec S16x2x256x512 1 := cmpf .olt main_v5 main_v6
  let main_c : IVec S_ 1 := constantI S_ 1 1#1
  let main_v8 : IVec S_ 1 := (fun x v => Host.reduce IntOp.andi x v reducesTo_S16x2x256x512_S_d0_1_2_3 h_S_) main_v7 main_c
  let main_v9 : FVec F S1x1024x128 .f32 := (extractStridedSlice S1x1024x128 ![0, 0, 0] · slices_S4x1024x128_S1x1024x128_0_0_0) main_arg1
  let main_v10 : FVec F S1024x128 .f32 := shapeCast S1024x128 main_v9 shapeCasts_S1x1024x128_S1024x128
  let main_v11 : FVec F S16x512x128 .f32 := (transpose S16x512x128 [0, 2, 1] · transposes_S16x128x512_S16x512x128_0_2_1) main_v1
  let main_v12 : FVec F S8192x128 .f32 := shapeCast S8192x128 main_v11 shapeCasts_S16x512x128_S8192x128
  let main_v13 : FVec F S8192x128 .f32 := mulf main_v12 main_v12
  let main_cst_0 : FVec F S_ .f32 := constant S_ .f32 0x00000000#32
  let main_v14 : FVec F S8192 .f32 := (fun x v => Host.reduceAdd x v reducesTo_S8192x128_S8192_d1 h_S_) main_v13 main_cst_0
  let main_v15 : FVec F S8192x1 .f32 := broadcastInDim S8192x1 ![0] bcast_S8192_S8192x1_0 main_v14
  let main_cst_1 : FVec F S_ .f32 := constant S_ .f32 0x40000000#32
  let main_v16 : FVec F S8192x128 .f32 := broadcastInDim S8192x128 ![] bcast_S_S8192x128 main_cst_1
  let main_v17 : FVec F S8192x128 .f32 := mulf main_v16 main_v12
  let main_v18 : FVec F S128x1024 .f32 := (transpose S128x1024 [1, 0] · transposes_S1024x128_S128x1024_1_0) main_v10
  let main_v19 : FVec F S8192x1024 .f32 := (fun l r => Host.dotGeneral dot_S8192x128_S128x1024_S8192x1024_1_0_0_1_n_n none l r) main_v17 main_v18
  fn_part1 (F := F) main_arg1 main_v2 main_v3 main_v4 main_v8 main_v10 main_v15 main_v19
-- ==== Kernel.lean ====
abbrev S16x2x256x512 : Shape := ⟨4, ![16, 2, 256, 512]⟩
abbrev S4x1024x128 : Shape := ⟨3, ![4, 1024, 128]⟩
abbrev S16x4x128x512 : Shape := ⟨4, ![16, 4, 128, 512]⟩
abbrev S8x1x128x512 : Shape := ⟨4, ![8, 1, 128, 512]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1x1x128x512 : Shape := ⟨4, ![1, 1, 128, 512]⟩
abbrev S128x512 : Shape := ⟨2, ![128, 512]⟩
abbrev S1024x512 : Shape := ⟨2, ![1024, 512]⟩
abbrev S512 : Shape := ⟨1, ![512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x2x256x512, .f32⟩
  | .hbm, ⟨1, _⟩ => ⟨S4x1024x128, .f32⟩
  | .hbm, ⟨2, _⟩ => ⟨S16x4x128x512, .f32⟩
  | .hbm, ⟨3, _⟩ => ⟨S16x4x128x512, .f32⟩
  | .hbm, ⟨4, _⟩ => ⟨S16x4x128x512, .f32⟩
  | .hbm, ⟨5, _⟩ => ⟨S16x2x256x512, .f32⟩
  | .hbm, ⟨6, _⟩ => ⟨S16x2x256x512, .f32⟩
  | .local _ .vmem, ⟨0, _⟩ => ⟨S8x1x128x512, .f32⟩
  | .local _ .vmem, ⟨1, _⟩ => ⟨S8x1x128x512, .f32⟩
  | .local _ .vmem, ⟨2, _⟩ => ⟨S1x1024x128, .f32⟩
  | .local _ .vmem, ⟨3, _⟩ => ⟨S1x1024x128, .f32⟩
  | .local _ .vmem, ⟨4, _⟩ => ⟨S8x1x128x512, .f32⟩
  | .local _ .vmem, ⟨5, _⟩ => ⟨S8x1x128x512, .f32⟩
  | .local _ .vmem, ⟨6, _⟩ => ⟨S8x1x128x512, .f32⟩
  | .local _ .vmem, ⟨7, _⟩ => ⟨S8x1x128x512, .f32⟩
  | _, _ => ⟨S16x2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S8x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2x256x512 : Shape := ⟨4, ![16, 2, 256, 512]⟩
abbrev S4x1024x128 : Shape := ⟨3, ![4, 1024, 128]⟩
abbrev S16x512x512 : Shape := ⟨3, ![16, 512, 512]⟩
abbrev S16x128x512 : Shape := ⟨3, ![16, 128, 512]⟩
abbrev S1x1024x128 : Shape := ⟨3, ![1, 1024, 128]⟩
abbrev S1024x128 : Shape := ⟨2, ![1024, 128]⟩
abbrev S16x512x128 : Shape := ⟨3, ![16, 512, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x1024 : Shape := ⟨2, ![128, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S16x2x256x512, .f32⟩
  | 1 => ⟨S4x1024x128, .f32⟩
  | 2 => ⟨S16x512x512, .f32⟩
  | 3 => ⟨S16x128x512, .f32⟩
  | 4 => ⟨S16x128x512, .f32⟩
  | 5 => ⟨S16x128x512, .f32⟩
  | 6 => ⟨S16x128x512, .f32⟩
  | 7 => ⟨S1x1024x128, .f32⟩
  | 8 => ⟨S1024x128, .f32⟩
  | 9 => ⟨S16x512x128, .f32⟩
  | 10 => ⟨S8192x128, .f32⟩
  | 11 => ⟨S8192x128, .f32⟩
  | 12 => ⟨S_, .f32⟩
  | 13 => ⟨S8192, .f32⟩
  | 14 => ⟨S8192x1, .f32⟩
  | 15 => ⟨S_, .f32⟩
  | 16 => ⟨S8192x128, .f32⟩
  | 17 => ⟨S8192x128, .f32⟩
  | 18 => ⟨S128x1024, .f32⟩
  | 19 => ⟨S8192x1024, .f32⟩
  | 20 => ⟨S8192x1024, .f32⟩
  | 21 => ⟨S8192x1024, .f32⟩
  | 22 => ⟨S1024x128, .f32⟩
  | 23 => ⟨S_, .f32⟩
  | 24 => ⟨S1024, .f32⟩
  | 25 => ⟨S1x1024, .f32⟩
  | 26 => ⟨S8192x1024, .f32⟩
  | 27 => ⟨S8192x1024, .f32⟩
  | 28 => ⟨S8192x1024, .i32⟩
  | 29 => ⟨S_, .f32⟩
  | 30 => ⟨S_, .i32⟩
  | 31 => ⟨S8192, .f32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S1, .i32⟩
  | 42 => ⟨S_, .i32⟩
  | 43 => ⟨S8192x1, .i32⟩
  | 44 => ⟨S8192x1, .i1⟩
  | 45 => ⟨S1x1, .i32⟩
  | 46 => ⟨S8192x1, .i32⟩
  | 47 => ⟨S8192x1, .i1⟩
  | 48 => ⟨S8192x1, .i1⟩
  | 49 => ⟨S_, .i1⟩
  | 50 => ⟨S8192, .i1⟩
  | 51 => ⟨S8192x128, .f32⟩
  | 52 => ⟨S8192x128, .i1⟩
  | 53 => ⟨S_, .f32⟩
  | 54 => ⟨S8192x128, .f32⟩
  | 55 => ⟨S8192x128, .f32⟩
  | 56 => ⟨S16x512x128, .f32⟩
  | 57 => ⟨S16x128x512, .f32⟩
  | 58 => ⟨S16x128x512, .f32⟩
  | 59 => ⟨S16x128x512, .f32⟩
  | 60 => ⟨S1x1024x128, .f32⟩
  | 61 => ⟨S1024x128, .f32⟩
  | 62 => ⟨S16x512x128, .f32⟩
  | 63 => ⟨S8192x128, .f32⟩
  | 64 => ⟨S8192x128, .f32⟩
  | 65 => ⟨S_, .f32⟩
  | 66 => ⟨S8192, .f32⟩
  | 67 => ⟨S8192x1, .f32⟩
  | 68 => ⟨S_, .f32⟩
  | 69 => ⟨S8192x128, .f32⟩
  | 70 => ⟨S8192x128, .f32⟩
  | 71 => ⟨S128x1024, .f32⟩
  | 72 => ⟨S8192x1024, .f32⟩
  | 73 => ⟨S8192x1024, .f32⟩
  | 74 => ⟨S8192x1024, .f32⟩
  | 75 => ⟨S1024x128, .f32⟩
  | 76 => ⟨S_, .f32⟩
  | 77 => ⟨S1024, .f32⟩
  | 78 => ⟨S1x1024, .f32⟩
  | 79 => ⟨S8192x1024, .f32⟩
  | 80 => ⟨S8192x1024, .f32⟩
  | 81 => ⟨S8192x1024, .i32⟩
  | 82 => ⟨S_, .f32⟩
  | 83 => ⟨S_, .i32⟩
  | 84 => ⟨S8192, .f32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S1, .i32⟩
  | 95 => ⟨S_, .i32⟩
  | 96 => ⟨S8192x1, .i32⟩
  | 97 => ⟨S8192x1, .i1⟩
  | 98 => ⟨S1x1, .i32⟩
  | 99 => ⟨S8192x1, .i32⟩
  | 100 => ⟨S8192x1, .i1⟩
  | 101 => ⟨S8192x1, .i1⟩
  | 102 => ⟨S_, .i1⟩
  | 103 => ⟨S8192, .i1⟩
  | 104 => ⟨S8192x128, .f32⟩
  | 105 => ⟨S8192x128, .i1⟩
  | 106 => ⟨S_, .f32⟩
  | 107 => ⟨S8192x128, .f32⟩
  | 108 => ⟨S8192x128, .f32⟩
  | 109 => ⟨S16x512x128, .f32⟩
  | 110 => ⟨S16x128x512, .f32⟩
  | 111 => ⟨S16x128x512, .f32⟩
  | 112 => ⟨S16x128x512, .f32⟩
  | 113 => ⟨S1x1024x128, .f32⟩
  | 114 => ⟨S1024x128, .f32⟩
  | 115 => ⟨S16x512x128, .f32⟩
  | 116 => ⟨S8192x128, .f32⟩
  | 117 => ⟨S8192x128, .f32⟩
  | 118 => ⟨S_, .f32⟩
  | 119 => ⟨S8192, .f32⟩
  | 120 => ⟨S8192x1, .f32⟩
  | 121 => ⟨S_, .f32⟩
  | 122 => ⟨S8192x128, .f32⟩
  | 123 => ⟨S8192x128, .f32⟩
  | 124 => ⟨S128x1024, .f32⟩
  | 125 => ⟨S8192x1024, .f32⟩
  | 126 => ⟨S8192x1024, .f32⟩
  | 127 => ⟨S8192x1024, .f32⟩
  | _ => ⟨S16x2x256x512, .f32⟩

abbrev hbmTy0_1 (i : Nat) : BufTy := match i % 128 with
  | 0 => ⟨S1024x128, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S8192x1024, .i32⟩
  | 7 => ⟨S_, .f32⟩
  | 8 => ⟨S_, .i32⟩
  | 9 => ⟨S8192, .f32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S1, .i32⟩
  | 20 => ⟨S_, .i32⟩
  | 21 => ⟨S8192x1, .i32⟩
  | 22 => ⟨S8192x1, .i1⟩
  | 23 => ⟨S1x1, .i32⟩
  | 24 => ⟨S8192x1, .i32⟩
  | 25 => ⟨S8192x1, .i1⟩
  | 26 => ⟨S8192x1, .i1⟩
  | 27 => ⟨S_, .i1⟩
  | 28 => ⟨S8192, .i1⟩
  | 29 => ⟨S8192x128, .f32⟩
  | 30 => ⟨S8192x128, .i1⟩
  | 31 => ⟨S_, .f32⟩
  | 32 => ⟨S8192x128, .f32⟩
  | 33 => ⟨S8192x128, .f32⟩
  | 34 => ⟨S16x512x128, .f32⟩
  | 35 => ⟨S16x128x512, .f32⟩
  | 36 => ⟨S16x128x512, .f32⟩
  | 37 => ⟨S16x128x512, .f32⟩
  | 38 => ⟨S1x1024x128, .f32⟩
  | 39 => ⟨S1024x128, .f32⟩
  | 40 => ⟨S16x512x128, .f32⟩
  | 41 => ⟨S8192x128, .f32⟩
  | 42 => ⟨S8192x128, .f32⟩
  | 43 => ⟨S_, .f32⟩
  | 44 => ⟨S8192, .f32⟩
  | 45 => ⟨S8192x1, .f32⟩
  | 46 => ⟨S_, .f32⟩
  | 47 => ⟨S8192x128, .f32⟩
  | 48 => ⟨S8192x128, .f32⟩
  | 49 => ⟨S128x1024, .f32⟩
  | 50 => ⟨S8192x1024, .f32⟩
  | 51 => ⟨S8192x1024, .f32⟩
  | 52 => ⟨S8192x1024, .f32⟩
  | 53 => ⟨S1024x128, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S8192x1024, .i32⟩
  | 60 => ⟨S_, .f32⟩
  | 61 => ⟨S_, .i32⟩
  | 62 => ⟨S8192, .f32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S1, .i32⟩
  | 73 => ⟨S_, .i32⟩
  | 74 => ⟨S8192x1, .i32⟩
  | 75 => ⟨S8192x1, .i1⟩
  | 76 => ⟨S1x1, .i32⟩
  | 77 => ⟨S8192x1, .i32⟩
  | 78 => ⟨S8192x1, .i1⟩
  | 79 => ⟨S8192x1, .i1⟩
  | 80 => ⟨S_, .i1⟩
  | 81 => ⟨S8192, .i1⟩
  | 82 => ⟨S8192x128, .f32⟩
  | 83 => ⟨S8192x128, .i1⟩
  | 84 => ⟨S_, .f32⟩
  | 85 => ⟨S8192x128, .f32⟩
  | 86 => ⟨S8192x128, .f32⟩
  | 87 => ⟨S16x512x128, .f32⟩
  | 88 => ⟨S16x128x512, .f32⟩
  | 89 => ⟨S16x128x512, .f32⟩
  | 90 => ⟨S16x128x512, .f32⟩
  | 91 => ⟨S16x512x512, .f32⟩
  | 92 => ⟨S16x2x256x512, .f32⟩
  | 93 => ⟨S16x512x512, .f32⟩
  | 94 => ⟨S16x2x256x512, .f32⟩
  | _ => ⟨S16x2x256x512, .f32⟩

abbrev hbmTy (i : Nat) : BufTy := match i / 128 with
  | 0 => hbmTy0_0 i
  | 1 => hbmTy0_1 i
  | _ => ⟨S16x2x256x512, .f32⟩

abbrev bufTy : (tb : Table) → Fin (tcTables nBuf tb) → BufTy
  | .hbm, ⟨i, _⟩ => hbmTy i
  | _, _ => ⟨S16x2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v23 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_2 : Ref sig .tc := ⟨.hbm, 65, rfl⟩
abbrev main_v34 : Ref sig .tc := ⟨.hbm, 66, rfl⟩
abbrev main_v35 : Ref sig .tc := ⟨.hbm, 67, rfl⟩
abbrev main_cst_3 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_4 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call2_v0 : Ref sig .tc := ⟨.hbm, 81, rfl⟩
abbrev main_call2_cst : Ref sig .tc := ⟨.hbm, 82, rfl⟩
abbrev main_call2_c : Ref sig .tc := ⟨.hbm, 83, rfl⟩
abbrev main_call2_v1_0 : Ref sig .tc := ⟨.hbm, 84, rfl⟩
abbrev main_v47 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_5 : Ref sig .tc := ⟨.hbm, 118, rfl⟩
abbrev main_v58 : Ref sig .tc := ⟨.hbm, 119, rfl⟩
abbrev main_v59 : Ref sig .tc := ⟨.hbm, 120, rfl⟩
abbrev main_cst_6 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_cst_7 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_call4_v0 : Ref sig .tc := ⟨.hbm, 134, rfl⟩
abbrev main_call4_cst : Ref sig .tc := ⟨.hbm, 135, rfl⟩
abbrev main_call4_c : Ref sig .tc := ⟨.hbm, 136, rfl⟩
abbrev main_call4_v1_0 : Ref sig .tc := ⟨.hbm, 137, rfl⟩
abbrev main_v71 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_call5_cst : Ref sig .tc := ⟨.hbm, 159, rfl⟩
abbrev main_call5_v15 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst_8 : Ref sig .tc := ⟨.hbm, 171, rfl⟩
abbrev main_v82 : Ref sig .tc := ⟨.hbm, 172, rfl⟩
abbrev main_v83 : Ref sig .tc := ⟨.hbm, 173, rfl⟩
abbrev main_cst_9 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_10 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_call6_v0 : Ref sig .tc := ⟨.hbm, 187, rfl⟩
abbrev main_call6_cst : Ref sig .tc := ⟨.hbm, 188, rfl⟩
abbrev main_call6_c : Ref sig .tc := ⟨.hbm, 189, rfl⟩
abbrev main_call6_v1_0 : Ref sig .tc := ⟨.hbm, 190, rfl⟩
abbrev main_v95 : Ref sig .tc := ⟨.hbm, 191, rfl⟩
abbrev main_call7_c : Ref sig .tc := ⟨.hbm, 192, rfl⟩
abbrev main_call7_v0 : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_c_1 : Ref sig .tc := ⟨.hbm, 200, rfl⟩
abbrev main_call7_c_2 : Ref sig .tc := ⟨.hbm, 201, rfl⟩
abbrev main_call7_v6 : Ref sig .tc := ⟨.hbm, 202, rfl⟩
abbrev main_call7_v7 : Ref sig .tc := ⟨.hbm, 203, rfl⟩
abbrev main_call7_v8 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_c_3 : Ref sig .tc := ⟨.hbm, 208, rfl⟩
abbrev main_call7_v12 : Ref sig .tc := ⟨.hbm, 209, rfl⟩
abbrev main_call7_v13 : Ref sig .tc := ⟨.hbm, 210, rfl⟩
abbrev main_call7_v14 : Ref sig .tc := ⟨.hbm, 211, rfl⟩
abbrev main_call7_cst : Ref sig .tc := ⟨.hbm, 212, rfl⟩
abbrev main_call7_v15 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩

abbrev nD : Nat := 1
abbrev τ : Topo := Topo.v7x

variable {F : FTy → Type} [FloatOps F]
-- ==== Proof.Spec.lean ====
/-
  The functions the reference program is made of, as functions of whole arrays: the four slices of the input and of the
  codebooks, the squared distances of every vector to every codeword, the number of the nearest codeword, the gather of the
  codewords, and the joining of the four quarters into a result.
-/
module

public import proofs.«01_k».proof.ReferenceIdeal
public import proofs.«01_k».proof.Proof.Gen.ReferenceIdeal

@[expose] public section

noncomputable section

namespace Cert.Proof.Spec

open Cert.ReferenceIdeal Cert.ReferenceIdeal.Gen Cert.ReferenceIdeal.Facts
open Idealize.ShloMosaic

variable {F : FTy → Type} [FloatOps F]

/-- One quarter of the input: 128 of the 512 rows of each batch entry, from the row `off` names. -/
def quarter (off : Fin 3 → ℕ) (h : S16x512x512.Slices off S16x128x512) (x : FVec F S16x2x256x512 .f32) : FVec F S16x128x512 .f32 :=
  extractStridedSlice S16x128x512 off (shapeCast S16x512x512 x shapeCasts_S16x2x256x512_S16x512x512) h

/-- One codebook of the four. -/
def book (off : Fin 3 → ℕ) (h : S4x1024x128.Slices off S1x1024x128) (c : FVec F S4x1024x128 .f32) : FVec F S1024x128 .f32 :=
  shapeCast S1024x128 (extractStridedSlice S1x1024x128 off c h) shapeCasts_S1x1024x128_S1024x128

/-- The vectors of a quarter, one per row. -/
def vectors (s : FVec F S16x128x512 .f32) : FVec F S8192x128 .f32 :=
  shapeCast S8192x128 (transpose S16x512x128 [0, 2, 1] s transposes_S16x128x512_S16x512x128_0_2_1) shapeCasts_S16x512x128_S8192x128

/-- The squared distances |s|² − 2 s·c + |c|² of every vector to every codeword. -/
def distances (s : FVec F S16x128x512 .f32) (c : FVec F S1024x128 .f32) : FVec F S8192x1024 .f32 :=
  addf
    (subf
      (broadcastInDim S8192x1024 ![0, 1] bcast_S8192x1_S8192x1024_0_1
        (broadcastInDim S8192x1 ![0] bcast_S8192_S8192x1_0
          (Host.reduceAdd (mulf (vectors s) (vectors s)) (constant S_ .f32 0x00000000#32) reducesTo_S8192x128_S8192_d1 h_S_)))
      (Host.dotGeneral dot_S8192x128_S128x1024_S8192x1024_1_0_0_1_n_n none
        (mulf (broadcastInDim S8192x128 ![] bcast_S_S8192x128 (constant S_ .f32 0x40000000#32)) (vectors s))
        (transpose S128x1024 [1, 0] c transposes_S1024x128_S128x1024_1_0)))
    (broadcastInDim S8192x1024 ![0, 1] bcast_S1x1024_S8192x1024_0_1
      (broadcastInDim S1x1024 ![1] bcast_S1024_S1x1024_1
        (Host.reduceAdd (mulf c c) (constant S_ .f32 0x00000000#32) reducesTo_S1024x128_S1024_d1 h_S_)))

/-- The least distance of a row and the number of the codeword it belongs to. -/
def first (d : FVec F S8192x1024 .f32) (j : S8192.Idx) : F .f32 × BitVec 32 :=
  Host.argReduce reducer_argmin_f32_i32 d (iotaInDim S8192x1024 32 1) (constant S_ .f32 0x7F800000#32) (constantI S_ 32 0#32)
    reducesTo_S8192x1024_S8192_d1 h_S_ j

theorem first_eq (d : FVec F S8192x1024 .f32) (j : S8192.Idx) :
    first d j = Host.argReduce reducer_argmin_f32_i32 d (iotaInDim S8192x1024 32 1) (constant S_ .f32 0x7F800000#32)
      (constantI S_ 32 0#32) reducesTo_S8192x1024_S8192_d1 h_S_ j := rfl

/-- The second of a pair. -/
def second {α β : Type} : α × β → β
  | ⟨_, b⟩ => b

/-- The number of the nearest codeword, per row. -/
def nearest (d : FVec F S8192x1024 .f32) : IVec S8192 32 := fun j => second (first d j)

theorem nearest_eq (d : FVec F S8192x1024 .f32) (j : S8192.Idx) : nearest d j = second (first d j) := rfl

theorem second_eq {α β : Type} (p : α × β) : second p = p.2 := rfl

/-- The numbers of the nearest codewords are the arg-min's second results. -/
theorem nearest_fun (d : FVec F S8192x1024 .f32) :
    nearest d = fun j => (Host.argReduce reducer_argmin_f32_i32 d (iotaInDim S8192x1024 32 1) (constant S_ .f32 0x7F800000#32)
      (constantI S_ 32 0#32) reducesTo_S8192x1024_S8192_d1 h_S_ j).2 :=
  funext fun j => (second_eq (first d j)).trans (congrArg Prod.snd (first_eq d j))

/-- The row numbers as the gather takes them: a negative one counted from the end. -/
def rowNumbers (n : IVec S8192 32) : IVec S8192x1 32 :=
  broadcastInDim S8192x1 ![0] bcast_S8192_S8192x1_0
    (select (cmpi .slt n (broadcastInDim S8192 ![] bcast_S_S8192 (constantI S_ 32 0#32)))
      (addi n (broadcastInDim S8192 ![] bcast_S_S8192 (constantI S_ 32 1024#32))) n)

/-- Which row numbers lie inside the codebook. -/
def inside (r : IVec S8192x1 32) : IVec S8192 1 :=
  Host.reduce IntOp.andi
    (andi (cmpi .sge r (broadcastInDim S8192x1 ![] bcast_S_S8192x1 (constantI S_ 32 0#32)))
      (cmpi .sle r (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The rows of a codebook with the numbers `n`: a row outside the codebook reads as the fill value. -/
def rowsAt (c : FVec F S1024x128 .f32) (n : IVec S8192 32) : FVec F S8192x128 .f32 :=
  select (broadcastInDim S8192x128 ![0] bcast_S8192_S8192x128_0 (inside (rowNumbers n)))
    (Host.gather gather_S1024x128_S8192x1_S8192x128_1_0_n_n_0_1_1128 c (rowNumbers n))
    (broadcastInDim S8192x128 ![] bcast_S_S8192x128 (constant S_ .f32 0x7FC00000#32))

/-- The codewords with the numbers `n`, in the layout of a quarter. -/
def picked (c : FVec F S1024x128 .f32) (n : IVec S8192 32) : FVec F S16x128x512 .f32 :=
  transpose S16x128x512 [0, 2, 1] (shapeCast S16x512x128 (rowsAt c n) shapeCasts_S8192x128_S16x512x128)
    transposes_S16x512x128_S16x128x512_0_2_1

/-- The codeword nearest to each vector of a quarter, in the quarter's layout. -/
def quantized (s : FVec F S16x128x512 .f32) (c : FVec F S1024x128 .f32) : FVec F S16x128x512 .f32 :=
  picked c (nearest (distances s c))

/-- The straight-through form of `q`: s + (q − s). -/
def through (s q : FVec F S16x128x512 .f32) : FVec F S16x128x512 .f32 := addf s (subf q s)

/-- The four quarters joined, in the layout of the input. -/
def joined {α : Type} (q0 q1 q2 q3 : S16x128x512.Idx → α) : S16x2x256x512.Idx → α :=
  shapeCast S16x2x256x512
    (concatenate S16x512x512 1 [⟨S16x128x512, q0⟩, ⟨S16x128x512, q1⟩, ⟨S16x128x512, q2⟩, ⟨S16x128x512, q3⟩]
      concatenates_S16x128x512_S16x128x512_S16x128x512_S16x128x512_S16x512x512_d1)
    shapeCasts_S16x512x512_S16x2x256x512

/-- The four quarters of the input. -/
def quarter0 (x : FVec F S16x2x256x512 .f32) : FVec F S16x128x512 .f32 := quarter ![0, 0, 0] slices_S16x512x512_S16x128x512_0_0_0 x
def quarter1 (x : FVec F S16x2x256x512 .f32) : FVec F S16x128x512 .f32 := quarter ![0, 128, 0] slices_S16x512x512_S16x128x512_0_128_0 x
def quarter2 (x : FVec F S16x2x256x512 .f32) : FVec F S16x128x512 .f32 := quarter ![0, 256, 0] slices_S16x512x512_S16x128x512_0_256_0 x
def quarter3 (x : FVec F S16x2x256x512 .f32) : FVec F S16x128x512 .f32 := quarter ![0, 384, 0] slices_S16x512x512_S16x128x512_0_384_0 x

/-- The four codebooks. -/
def book0 (c : FVec F S4x1024x128 .f32) : FVec F S1024x128 .f32 := book ![0, 0, 0] slices_S4x1024x128_S1x1024x128_0_0_0 c
def book1 (c : FVec F S4x1024x128 .f32) : FVec F S1024x128 .f32 := book ![1, 0, 0] slices_S4x1024x128_S1x1024x128_1_0_0 c
def book2 (c : FVec F S4x1024x128 .f32) : FVec F S1024x128 .f32 := book ![2, 0, 0] slices_S4x1024x128_S1x1024x128_2_0_0 c
def book3 (c : FVec F S4x1024x128 .f32) : FVec F S1024x128 .f32 := book ![3, 0, 0] slices_S4x1024x128_S1x1024x128_3_0_0 c

/-- The second result: every vector's nearest codeword. -/
def detached (x : FVec F S16x2x256x512 .f32) (c : FVec F S4x1024x128 .f32) : FVec F S16x2x256x512 .f32 :=
  joined (quantized (quarter0 x) (book0 c)) (quantized (quarter1 x) (book1 c))
    (quantized (quarter2 x) (book2 c)) (quantized (quarter3 x) (book3 c))

/-- The first result: the same, in straight-through form. -/
def straight (x : FVec F S16x2x256x512 .f32) (c : FVec F S4x1024x128 .f32) : FVec F S16x2x256x512 .f32 :=
  joined (through (quarter0 x) (quantized (quarter0 x) (book0 c))) (through (quarter1 x) (quantized (quarter1 x) (book1 c)))
    (through (quarter2 x) (quantized (quarter2 x) (book2 c))) (through (quarter3 x) (quantized (quarter3 x) (book3 c)))

end Cert.Proof.Spec

end
-- ==== Proof.Ref.lean ====
/-
  The run of the reference program: a straight line of operations, cut into the slices of the input, two runs of operations
  per quarter (the nearest codewords' numbers; the gather and the straight-through form), and the joining of the quarters.
  Each cut is read at the buffers later cuts use, and the whole line at the two results: `Spec.straight` and `Spec.detached`
  of the arguments.
-/
module

public import proofs.«01_k».proof.Proof.Spec
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen Cert.ReferenceIdeal.Facts
open Idealize.ShloMosaic Idealize.ShloMosaic.TcCoe Idealize.ShloMosaic.StableHlo Idealize.SL.Sem

variable {F : FTy → Type} [FloatOps F]

/-- The reshape of the input and its four quarters. -/
abbrev slices : List (HloOp τ sig (Elt F)) :=
  [ reshape main_arg0 main_v0 (rfl : (.f32 : EltTy) = .f32) shapeCasts_S16x2x256x512_S16x512x512,
    unary main_v0 main_v1 (extractStridedSlice S16x128x512 ![0, 0, 0] · slices_S16x512x512_S16x128x512_0_0_0),
    unary main_v0 main_v2 (extractStridedSlice S16x128x512 ![0, 128, 0] · slices_S16x512x512_S16x128x512_0_128_0),
    unary main_v0 main_v3 (extractStridedSlice S16x128x512 ![0, 256, 0] · slices_S16x512x512_S16x128x512_0_256_0),
    unary main_v0 main_v4 (extractStridedSlice S16x128x512 ![0, 384, 0] · slices_S16x512x512_S16x128x512_0_384_0) ]

/-- The buffers `slices` writes. -/
abbrev slicesW : List (Ref sig .tc) :=
  [main_v0, main_v1, main_v2, main_v3, main_v4]

/-- Quarter 0: its codebook, the distances, the nearest codeword. -/
abbrev near0 : List (HloOp τ sig (Elt F)) :=
  [ unary main_arg1 main_v5 (extractStridedSlice S1x1024x128 ![0, 0, 0] · slices_S4x1024x128_S1x1024x128_0_0_0),
    reshape main_v5 main_v6 (rfl : (.f32 : EltTy) = .f32) shapeCasts_S1x1024x128_S1024x128,
    unary main_v1 main_v7 (transpose S16x512x128 [0, 2, 1] · transposes_S16x128x512_S16x512x128_0_2_1),
    reshape main_v7 main_v8 (rfl : (.f32 : EltTy) = .f32) shapeCasts_S16x512x128_S8192x128,
    binary main_v8 main_v8 main_v9 mulf,
    nullary main_cst (constant S_ .f32 0x00000000#32),
    binary main_v9 main_cst main_v10 (fun x v => Host.reduceAdd x v reducesTo_S8192x128_S8192_d1 h_S_),
    unary main_v10 main_v11 (broadcastInDim S8192x1 ![0] bcast_S8192_S8192x1_0),
    nullary main_cst_0 (constant S_ .f32 0x40000000#32),
    unary main_cst_0 main_v12 (broadcastInDim S8192x128 ![] bcast_S_S8192x128),
    binary main_v12 main_v8 main_v13 mulf,
    unary main_v6 main_v14 (transpose S128x1024 [1, 0] · transposes_S1024x128_S128x1024_1_0),
    binary main_v13 main_v14 main_v15 (fun l r => Host.dotGeneral dot_S8192x128_S128x1024_S8192x1024_1_0_0_1_n_n none l r),
    unary main_v11 main_v16 (broadcastInDim S8192x1024 ![0, 1] bcast_S8192x1_S8192x1024_0_1),
    binary main_v16 main_v15 main_v17 subf,
    binary main_v6 main_v6 main_v18 mulf,
    nullary main_cst_1 (constant S_ .f32 0x00000000#32),
    binary main_v18 main_cst_1 main_v19 (fun x v => Host.reduceAdd x v reducesTo_S1024x128_S1024_d1 h_S_),
    unary main_v19 main_v20 (broadcastInDim S1x1024 ![1] bcast_S1024_S1x1024_1),
    unary main_v20 main_v21 (broadcastInDim S8192x1024 ![0, 1] bcast_S1x1024_S8192x1024_0_1),
    binary main_v17 main_v21 main_v22 addf,
    nullary main_call0_v0 (iotaInDim S8192x1024 32 1),
    nullary main_call0_cst (constant S_ .f32 0x7F800000#32),
    nullary main_call0_c (constantI S_ 32 0#32),
    quaternary main_v22 main_call0_v0 main_call0_cst main_call0_c main_call0_v1_0 (fun x y u v j => (Host.argReduce reducer_argmin_f32_i32 x y u v reducesTo_S8192x1024_S8192_d1 h_S_ j).1),
    quaternary main_v22 main_call0_v0 main_call0_cst main_call0_c main_v23 (fun x y u v j => (Host.argReduce reducer_argmin_f32_i32 x y u v reducesTo_S8192x1024_S8192_d1 h_S_ j).2) ]

/-- The buffers `near0` writes. -/
abbrev near0W : List (Ref sig .tc) :=
  [main_v5, main_v6, main_v7, main_v8, main_v9, main_cst, main_v10, main_v11, main_cst_0, main_v12, main_v13,
   main_v14, main_v15, main_v16, main_v17, main_v18, main_cst_1, main_v19, main_v20, main_v21, main_v22,
   main_call0_v0, main_call0_cst, main_call0_c, main_call0_v1_0, main_v23]

/-- Quarter 0: the gather of the codewords, and the straight-through form. -/
abbrev pick0 : List (HloOp τ sig (Elt F)) :=
  [ nullary main_call1_c (constantI S_ 32 0#32),
    unary main_call1_c main_call1_v0 (broadcastInDim S8192 ![] bcast_S_S8192),
    binary main_v23 main_call1_v0 main_call1_v1 (cmpi .slt),
    nullary main_call1_c_0 (constantI S_ 32 1024#32),
    unary main_call1_c_0 main_call1_v2 (broadcastInDim S8192 ![] bcast_S_S8192),
    binary main_v23 main_call1_v2 main_call1_v3 addi,
    ternary main_call1_v1 main_call1_v3 main_v23 main_call1_v4 select,
    unary main_call1_v4 main_call1_v5 (broadcastInDim S8192x1 ![0] bcast_S8192_S8192x1_0),
    nullary main_call1_c_1 (constantI S1 32 1023#32),
    nullary main_call1_c_2 (constantI S_ 32 0#32),
    unary main_call1_c_2 main_call1_v6 (broadcastInDim S8192x1 ![] bcast_S_S8192x1),
    binary main_call1_v5 main_call1_v6 main_call1_v7 (cmpi .sge),
    unary main_call1_c_1 main_call1_v8 (broadcastInDim S1x1 ![1] bcast_S1_S1x1_1),
    unary main_call1_v8 main_call1_v9 (broadcastInDim S8192x1 ![0, 1] bcast_S1x1_S8192x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S8192x1_S8192_d1 h_S_),
    binary main_v6 main_call1_v5 main_call1_v13 (fun x i => Host.gather gather_S1024x128_S8192x1_S8192x128_1_0_n_n_0_1_1128 x i),
    unary main_call1_v12 main_call1_v14 (broadcastInDim S8192x128 ![0] bcast_S8192_S8192x128_0),
    nullary main_call1_cst (constant S_ .f32 0x7FC00000#32),
    unary main_call1_cst main_call1_v15 (broadcastInDim S8192x128 ![] bcast_S_S8192x128),
    ternary main_call1_v14 main_call1_v13 main_call1_v15 main_v24 select,
    reshape main_v24 main_v25 (rfl : (.f32 : EltTy) = .f32) shapeCasts_S8192x128_S16x512x128,
    unary main_v25 main_v26 (transpose S16x128x512 [0, 2, 1] · transposes_S16x512x128_S16x128x512_0_2_1),
    binary main_v26 main_v1 main_v27 subf,
    binary main_v1 main_v27 main_v28 addf ]

/-- The buffers `pick0` writes. -/
abbrev pick0W : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v24, main_v25, main_v26, main_v27, main_v28]

/-- Quarter 1: its codebook, the distances, the nearest codeword. -/
abbrev near1 : List (HloOp τ sig (Elt F)) :=
  [ unary main_arg1 main_v29 (extractStridedSlice S1x1024x128 ![1, 0, 0] · slices_S4x1024x128_S1x1024x128_1_0_0),
    reshape main_v29 main_v30 (rfl : (.f32 : EltTy) = .f32) shapeCasts_S1x1024x128_S1024x128,
    unary main_v2 main_v31 (transpose S16x512x128 [0, 2, 1] · transposes_S16x128x512_S16x512x128_0_2_1),
    reshape main_v31 main_v32 (rfl : (.f32 : EltTy) = .f32) shapeCasts_S16x512x128_S8192x128,
    binary main_v32 main_v32 main_v33 mulf,
    nullary main_cst_2 (constant S_ .f32 0x00000000#32),
    binary main_v33 main_cst_2 main_v34 (fun x v => Host.reduceAdd x v reducesTo_S8192x128_S8192_d1 h_S_),
    unary main_v34 main_v35 (broadcastInDim S8192x1 ![0] bcast_S8192_S8192x1_0),
    nullary main_cst_3 (constant S_ .f32 0x40000000#32),
    unary main_cst_3 main_v36 (broadcastInDim S8192x128 ![] bcast_S_S8192x128),
    binary main_v36 main_v32 main_v37 mulf,
    unary main_v30 main_v38 (transpose S128x1024 [1, 0] · transposes_S1024x128_S128x1024_1_0),
    binary main_v37 main_v38 main_v39 (fun l r => Host.dotGeneral dot_S8192x128_S128x1024_S8192x1024_1_0_0_1_n_n none l r),
    unary main_v35 main_v40 (broadcastInDim S8192x1024 ![0, 1] bcast_S8192x1_S8192x1024_0_1),
    binary main_v40 main_v39 main_v41 subf,
    binary main_v30 main_v30 main_v42 mulf,
    nullary main_cst_4 (constant S_ .f32 0x00000000#32),
    binary main_v42 main_cst_4 main_v43 (fun x v => Host.reduceAdd x v reducesTo_S1024x128_S1024_d1 h_S_),
    unary main_v43 main_v44 (broadcastInDim S1x1024 ![1] bcast_S1024_S1x1024_1),
    unary main_v44 main_v45 (broadcastInDim S8192x1024 ![0, 1] bcast_S1x1024_S8192x1024_0_1),
    binary main_v41 main_v45 main_v46 addf,
    nullary main_call2_v0 (iotaInDim S8192x1024 32 1),
    nullary main_call2_cst (constant S_ .f32 0x7F800000#32),
    nullary main_call2_c (constantI S_ 32 0#32),
    quaternary main_v46 main_call2_v0 main_call2_cst main_call2_c main_call2_v1_0 (fun x y u v j => (Host.argReduce reducer_argmin_f32_i32 x y u v reducesTo_S8192x1024_S8192_d1 h_S_ j).1),
    quaternary main_v46 main_call2_v0 main_call2_cst main_call2_c main_v47 (fun x y u v j => (Host.argReduce reducer_argmin_f32_i32 x y u v reducesTo_S8192x1024_S8192_d1 h_S_ j).2) ]

/-- The buffers `near1` writes. -/
abbrev near1W : List (Ref sig .tc) :=
  [main_v29, main_v30, main_v31, main_v32, main_v33, main_cst_2, main_v34, main_v35, main_cst_3, main_v36, main_v37,
   main_v38, main_v39, main_v40, main_v41, main_v42, main_cst_4, main_v43, main_v44, main_v45, main_v46,
   main_call2_v0, main_call2_cst, main_call2_c, main_call2_v1_0, main_v47]

/-- Quarter 1: the gather of the codewords, and the straight-through form. -/
abbrev pick1 : List (HloOp τ sig (Elt F)) :=
  [ nullary main_call3_c (constantI S_ 32 0#32),
    unary main_call3_c main_call3_v0 (broadcastInDim S8192 ![] bcast_S_S8192),
    binary main_v47 main_call3_v0 main_call3_v1 (cmpi .slt),
    nullary main_call3_c_0 (constantI S_ 32 1024#32),
    unary main_call3_c_0 main_call3_v2 (broadcastInDim S8192 ![] bcast_S_S8192),
    binary main_v47 main_call3_v2 main_call3_v3 addi,
    ternary main_call3_v1 main_call3_v3 main_v47 main_call3_v4 select,
    unary main_call3_v4 main_call3_v5 (broadcastInDim S8192x1 ![0] bcast_S8192_S8192x1_0),
    nullary main_call3_c_1 (constantI S1 32 1023#32),
    nullary main_call3_c_2 (constantI S_ 32 0#32),
    unary main_call3_c_2 main_call3_v6 (broadcastInDim S8192x1 ![] bcast_S_S8192x1),
    binary main_call3_v5 main_call3_v6 main_call3_v7 (cmpi .sge),
    unary main_call3_c_1 main_call3_v8 (broadcastInDim S1x1 ![1] bcast_S1_S1x1_1),
    unary main_call3_v8 main_call3_v9 (broadcastInDim S8192x1 ![0, 1] bcast_S1x1_S8192x1_0_1),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 (fun x v => Host.reduce IntOp.andi x v reducesTo_S8192x1_S8192_d1 h_S_),
    binary main_v30 main_call3_v5 main_call3_v13 (fun x i => Host.gather gather_S1024x128_S8192x1_S8192x128_1_0_n_n_0_1_1128 x i),
    unary main_call3_v12 main_call3_v14 (broadcastInDim S8192x128 ![0] bcast_S8192_S8192x128_0),
    nullary main_call3_cst (constant S_ .f32 0x7FC00000#32),
    unary main_call3_cst main_call3_v15 (broadcastInDim S8192x128 ![] bcast_S_S8192x128),
    ternary main_call3_v14 main_call3_v13 main_call3_v15 main_v48 select,
    reshape main_v48 main_v49 (rfl : (.f32 : EltTy) = .f32) shapeCasts_S8192x128_S16x512x128,
    unary main_v49 main_v50 (transpose S16x128x512 [0, 2, 1] · transposes_S16x512x128_S16x128x512_0_2_1),
    binary main_v50 main_v2 main_v51 subf,
    binary main_v2 main_v51 main_v52 addf ]

/-- The buffers `pick1` writes. -/
abbrev pick1W : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v48, main_v49, main_v50, main_v51, main_v52]

/-- Quarter 2: its codebook, the distances, the nearest codeword. -/
abbrev near2 : List (HloOp τ sig (Elt F)) :=
  [ unary main_arg1 main_v53 (extractStridedSlice S1x1024x128 ![2, 0, 0] · slices_S4x1024x128_S1x1024x128_2_0_0),
    reshape main_v53 main_v54 (rfl : (.f32 : EltTy) = .f32) shapeCasts_S1x1024x128_S1024x128,
    unary main_v3 main_v55 (transpose S16x512x128 [0, 2, 1] · transposes_S16x128x512_S16x512x128_0_2_1),
    reshape main_v55 main_v56 (rfl : (.f32 : EltTy) = .f32) shapeCasts_S16x512x128_S8192x128,
    binary main_v56 main_v56 main_v57 mulf,
    nullary main_cst_5 (constant S_ .f32 0x00000000#32),
    binary main_v57 main_cst_5 main_v58 (fun x v => Host.reduceAdd x v reducesTo_S8192x128_S8192_d1 h_S_),
    unary main_v58 main_v59 (broadcastInDim S8192x1 ![0] bcast_S8192_S8192x1_0),
    nullary main_cst_6 (constant S_ .f32 0x40000000#32),
    unary main_cst_6 main_v60 (broadcastInDim S8192x128 ![] bcast_S_S8192x128),
    binary main_v60 main_v56 main_v61 mulf,
    unary main_v54 main_v62 (transpose S128x1024 [1, 0] · transposes_S1024x128_S128x1024_1_0),
    binary main_v61 main_v62 main_v63 (fun l r => Host.dotGeneral dot_S8192x128_S128x1024_S8192x1024_1_0_0_1_n_n none l r),
    unary main_v59 main_v64 (broadcastInDim S8192x1024 ![0, 1] bcast_S8192x1_S8192x1024_0_1),
    binary main_v64 main_v63 main_v65 subf,
    binary main_v54 main_v54 main_v66 mulf,
    nullary main_cst_7 (constant S_ .f32 0x00000000#32),
    binary main_v66 main_cst_7 main_v67 (fun x v => Host.reduceAdd x v reducesTo_S1024x128_S1024_d1 h_S_),
    unary main_v67 main_v68 (broadcastInDim S1x1024 ![1] bcast_S1024_S1x1024_1),
    unary main_v68 main_v69 (broadcastInDim S8192x1024 ![0, 1] bcast_S1x1024_S8192x1024_0_1),
    binary main_v65 main_v69 main_v70 addf,
    nullary main_call4_v0 (iotaInDim S8192x1024 32 1),
    nullary main_call4_cst (constant S_ .f32 0x7F800000#32),
    nullary main_call4_c (constantI S_ 32 0#32),
    quaternary main_v70 main_call4_v0 main_call4_cst main_call4_c main_call4_v1_0 (fun x y u v j => (Host.argReduce reducer_argmin_f32_i32 x y u v reducesTo_S8192x1024_S8192_d1 h_S_ j).1),
    quaternary main_v70 main_call4_v0 main_call4_cst main_call4_c main_v71 (fun x y u v j => (Host.argReduce reducer_argmin_f32_i32 x y u v reducesTo_S8192x1024_S8192_d1 h_S_ j).2) ]

/-- The buffers `near2` writes. -/
abbrev near2W : List (Ref sig .tc) :=
  [main_v53, main_v54, main_v55, main_v56, main_v57, main_cst_5, main_v58, main_v59, main_cst_6, main_v60, main_v61,
   main_v62, main_v63, main_v64, main_v65, main_v66, main_cst_7, main_v67, main_v68, main_v69, main_v70,
   main_call4_v0, main_call4_cst, main_call4_c, main_call4_v1_0, main_v71]

/-- Quarter 2: the gather of the codewords, and the straight-through form. -/
abbrev pick2 : List (HloOp τ sig (Elt F)) :=
  [ nullary main_call5_c (constantI S_ 32 0#32),
    unary main_call5_c main_call5_v0 (broadcastInDim S8192 ![] bcast_S_S8192),
    binary main_v71 main_call5_v0 main_call5_v1 (cmpi .slt),
    nullary main_call5_c_0 (constantI S_ 32 1024#32),
    unary main_call5_c_0 main_call5_v2 (broadcastInDim S8192 ![] bcast_S_S8192),
    binary main_v71 main_call5_v2 main_call5_v3 addi,
    ternary main_call5_v1 main_call5_v3 main_v71 main_call5_v4 select,
    unary main_call5_v4 main_call5_v5 (broadcastInDim S8192x1 ![0] bcast_S8192_S8192x1_0),
    nullary main_call5_c_1 (constantI S1 32 1023#32),
    nullary main_call5_c_2 (constantI S_ 32 0#32),
    unary main_call5_c_2 main_call5_v6 (broadcastInDim S8192x1 ![] bcast_S_S8192x1),
    binary main_call5_v5 main_call5_v6 main_call5_v7 (cmpi .sge),
    unary main_call5_c_1 main_call5_v8 (broadcastInDim S1x1 ![1] bcast_S1_S1x1_1),
    unary main_call5_v8 main_call5_v9 (broadcastInDim S8192x1 ![0, 1] bcast_S1x1_S8192x1_0_1),
    binary main_call5_v5 main_call5_v9 main_call5_v10 (cmpi .sle),
    binary main_call5_v7 main_call5_v10 main_call5_v11 andi,
    nullary main_call5_c_3 (constantI S_ 1 1#1),
    binary main_call5_v11 main_call5_c_3 main_call5_v12 (fun x v => Host.reduce IntOp.andi x v reducesTo_S8192x1_S8192_d1 h_S_),
    binary main_v54 main_call5_v5 main_call5_v13 (fun x i => Host.gather gather_S1024x128_S8192x1_S8192x128_1_0_n_n_0_1_1128 x i),
    unary main_call5_v12 main_call5_v14 (broadcastInDim S8192x128 ![0] bcast_S8192_S8192x128_0),
    nullary main_call5_cst (constant S_ .f32 0x7FC00000#32),
    unary main_call5_cst main_call5_v15 (broadcastInDim S8192x128 ![] bcast_S_S8192x128),
    ternary main_call5_v14 main_call5_v13 main_call5_v15 main_v72 select,
    reshape main_v72 main_v73 (rfl : (.f32 : EltTy) = .f32) shapeCasts_S8192x128_S16x512x128,
    unary main_v73 main_v74 (transpose S16x128x512 [0, 2, 1] · transposes_S16x512x128_S16x128x512_0_2_1),
    binary main_v74 main_v3 main_v75 subf,
    binary main_v3 main_v75 main_v76 addf ]

/-- The buffers `pick2` writes. -/
abbrev pick2W : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v72, main_v73, main_v74, main_v75, main_v76]

/-- Quarter 3: its codebook, the distances, the nearest codeword. -/
abbrev near3 : List (HloOp τ sig (Elt F)) :=
  [ unary main_arg1 main_v77 (extractStridedSlice S1x1024x128 ![3, 0, 0] · slices_S4x1024x128_S1x1024x128_3_0_0),
    reshape main_v77 main_v78 (rfl : (.f32 : EltTy) = .f32) shapeCasts_S1x1024x128_S1024x128,
    unary main_v4 main_v79 (transpose S16x512x128 [0, 2, 1] · transposes_S16x128x512_S16x512x128_0_2_1),
    reshape main_v79 main_v80 (rfl : (.f32 : EltTy) = .f32) shapeCasts_S16x512x128_S8192x128,
    binary main_v80 main_v80 main_v81 mulf,
    nullary main_cst_8 (constant S_ .f32 0x00000000#32),
    binary main_v81 main_cst_8 main_v82 (fun x v => Host.reduceAdd x v reducesTo_S8192x128_S8192_d1 h_S_),
    unary main_v82 main_v83 (broadcastInDim S8192x1 ![0] bcast_S8192_S8192x1_0),
    nullary main_cst_9 (constant S_ .f32 0x40000000#32),
    unary main_cst_9 main_v84 (broadcastInDim S8192x128 ![] bcast_S_S8192x128),
    binary main_v84 main_v80 main_v85 mulf,
    unary main_v78 main_v86 (transpose S128x1024 [1, 0] · transposes_S1024x128_S128x1024_1_0),
    binary main_v85 main_v86 main_v87 (fun l r => Host.dotGeneral dot_S8192x128_S128x1024_S8192x1024_1_0_0_1_n_n none l r),
    unary main_v83 main_v88 (broadcastInDim S8192x1024 ![0, 1] bcast_S8192x1_S8192x1024_0_1),
    binary main_v88 main_v87 main_v89 subf,
    binary main_v78 main_v78 main_v90 mulf,
    nullary main_cst_10 (constant S_ .f32 0x00000000#32),
    binary main_v90 main_cst_10 main_v91 (fun x v => Host.reduceAdd x v reducesTo_S1024x128_S1024_d1 h_S_),
    unary main_v91 main_v92 (broadcastInDim S1x1024 ![1] bcast_S1024_S1x1024_1),
    unary main_v92 main_v93 (broadcastInDim S8192x1024 ![0, 1] bcast_S1x1024_S8192x1024_0_1),
    binary main_v89 main_v93 main_v94 addf,
    nullary main_call6_v0 (iotaInDim S8192x1024 32 1),
    nullary main_call6_cst (constant S_ .f32 0x7F800000#32),
    nullary main_call6_c (constantI S_ 32 0#32),
    quaternary main_v94 main_call6_v0 main_call6_cst main_call6_c main_call6_v1_0 (fun x y u v j => (Host.argReduce reducer_argmin_f32_i32 x y u v reducesTo_S8192x1024_S8192_d1 h_S_ j).1),
    quaternary main_v94 main_call6_v0 main_call6_cst main_call6_c main_v95 (fun x y u v j => (Host.argReduce reducer_argmin_f32_i32 x y u v reducesTo_S8192x1024_S8192_d1 h_S_ j).2) ]

/-- The buffers `near3` writes. -/
abbrev near3W : List (Ref sig .tc) :=
  [main_v77, main_v78, main_v79, main_v80, main_v81, main_cst_8, main_v82, main_v83, main_cst_9, main_v84, main_v85,
   main_v86, main_v87, main_v88, main_v89, main_v90, main_cst_10, main_v91, main_v92, main_v93, main_v94,
   main_call6_v0, main_call6_cst, main_call6_c, main_call6_v1_0, main_v95]

/-- Quarter 3: the gather of the codewords, and the straight-through form. -/
abbrev pick3 : List (HloOp τ sig (Elt F)) :=
  [ nullary main_call7_c (constantI S_ 32 0#32),
    unary main_call7_c main_call7_v0 (broadcastInDim S8192 ![] bcast_S_S8192),
    binary main_v95 main_call7_v0 main_call7_v1 (cmpi .slt),
    nullary main_call7_c_0 (constantI S_ 32 1024#32),
    unary main_call7_c_0 main_call7_v2 (broadcastInDim S8192 ![] bcast_S_S8192),
    binary main_v95 main_call7_v2 main_call7_v3 addi,
    ternary main_call7_v1 main_call7_v3 main_v95 main_call7_v4 select,
    unary main_call7_v4 main_call7_v5 (broadcastInDim S8192x1 ![0] bcast_S8192_S8192x1_0),
    nullary main_call7_c_1 (constantI S1 32 1023#32),
    nullary main_call7_c_2 (constantI S_ 32 0#32),
    unary main_call7_c_2 main_call7_v6 (broadcastInDim S8192x1 ![] bcast_S_S8192x1),
    binary main_call7_v5 main_call7_v6 main_call7_v7 (cmpi .sge),
    unary main_call7_c_1 main_call7_v8 (broadcastInDim S1x1 ![1] bcast_S1_S1x1_1),
    unary main_call7_v8 main_call7_v9 (broadcastInDim S8192x1 ![0, 1] bcast_S1x1_S8192x1_0_1),
    binary main_call7_v5 main_call7_v9 main_call7_v10 (cmpi .sle),
    binary main_call7_v7 main_call7_v10 main_call7_v11 andi,
    nullary main_call7_c_3 (constantI S_ 1 1#1),
    binary main_call7_v11 main_call7_c_3 main_call7_v12 (fun x v => Host.reduce IntOp.andi x v reducesTo_S8192x1_S8192_d1 h_S_),
    binary main_v78 main_call7_v5 main_call7_v13 (fun x i => Host.gather gather_S1024x128_S8192x1_S8192x128_1_0_n_n_0_1_1128 x i),
    unary main_call7_v12 main_call7_v14 (broadcastInDim S8192x128 ![0] bcast_S8192_S8192x128_0),
    nullary main_call7_cst (constant S_ .f32 0x7FC00000#32),
    unary main_call7_cst main_call7_v15 (broadcastInDim S8192x128 ![] bcast_S_S8192x128),
    ternary main_call7_v14 main_call7_v13 main_call7_v15 main_v96 select,
    reshape main_v96 main_v97 (rfl : (.f32 : EltTy) = .f32) shapeCasts_S8192x128_S16x512x128,
    unary main_v97 main_v98 (transpose S16x128x512 [0, 2, 1] · transposes_S16x512x128_S16x128x512_0_2_1),
    binary main_v98 main_v4 main_v99 subf,
    binary main_v4 main_v99 main_v100 addf ]

/-- The buffers `pick3` writes. -/
abbrev pick3W : List (Ref sig .tc) :=
  [main_call7_c, main_call7_v0, main_call7_v1, main_call7_c_0, main_call7_v2, main_call7_v3, main_call7_v4,
   main_call7_v5, main_call7_c_1, main_call7_c_2, main_call7_v6, main_call7_v7, main_call7_v8, main_call7_v9,
   main_call7_v10, main_call7_v11, main_call7_c_3, main_call7_v12, main_call7_v13, main_call7_v14, main_call7_cst,
   main_call7_v15, main_v96, main_v97, main_v98, main_v99, main_v100]

/-- The joining of the four quarters, once per result. -/
abbrev join : List (HloOp τ sig (Elt F)) :=
  [ nary ![main_v28, main_v52, main_v76, main_v100] main_v101 (fun u => (concatenate S16x512x512 1 [⟨S16x128x512, (u 0)⟩, ⟨S16x128x512, (u 1)⟩, ⟨S16x128x512, (u 2)⟩, ⟨S16x128x512, (u 3)⟩] concatenates_S16x128x512_S16x128x512_S16x128x512_S16x128x512_S16x512x512_d1)),
    reshape main_v101 main_v102 (rfl : (.f32 : EltTy) = .f32) shapeCasts_S16x512x512_S16x2x256x512,
    nary ![main_v26, main_v50, main_v74, main_v98] main_v103 (fun u => (concatenate S16x512x512 1 [⟨S16x128x512, (u 0)⟩, ⟨S16x128x512, (u 1)⟩, ⟨S16x128x512, (u 2)⟩, ⟨S16x128x512, (u 3)⟩] concatenates_S16x128x512_S16x128x512_S16x128x512_S16x128x512_S16x512x512_d1)),
    reshape main_v103 main_v104 (rfl : (.f32 : EltTy) = .f32) shapeCasts_S16x512x512_S16x2x256x512 ]

/-- The buffers `join` writes. -/
abbrev joinW : List (Ref sig .tc) :=
  [main_v101, main_v102, main_v103, main_v104]

/-- @main's operations, in order. -/
abbrev ops : List (HloOp τ sig (Elt F)) :=
  slices ++ (near0 ++ (pick0 ++ (near1 ++ (pick1 ++ (near2 ++ (pick2 ++ (near3 ++ (pick3 ++ (join)))))))))

set_option maxHeartbeats 4000000 in
/-- @main is that straight line. -/
theorem main_eq (c : Dev nD) : main (F := F) c = seq ops := rfl

/-- The contents after two lines are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem slices_keeps (V : Valuation τ sig (Elt F)) {r : Ref sig .tc} (hr : r ∉ slicesW) :
    after slices V (Proc.devRef .tc r) = V (Proc.devRef .tc r) :=
  after_of_writes_sub slices V (forall_writes_sub_of_map rfl) hr

theorem near0_keeps (V : Valuation τ sig (Elt F)) {r : Ref sig .tc} (hr : r ∉ near0W) :
    after near0 V (Proc.devRef .tc r) = V (Proc.devRef .tc r) :=
  after_of_writes_sub near0 V (forall_writes_sub_of_map rfl) hr

theorem pick0_keeps (V : Valuation τ sig (Elt F)) {r : Ref sig .tc} (hr : r ∉ pick0W) :
    after pick0 V (Proc.devRef .tc r) = V (Proc.devRef .tc r) :=
  after_of_writes_sub pick0 V (forall_writes_sub_of_map rfl) hr

theorem near1_keeps (V : Valuation τ sig (Elt F)) {r : Ref sig .tc} (hr : r ∉ near1W) :
    after near1 V (Proc.devRef .tc r) = V (Proc.devRef .tc r) :=
  after_of_writes_sub near1 V (forall_writes_sub_of_map rfl) hr

theorem pick1_keeps (V : Valuation τ sig (Elt F)) {r : Ref sig .tc} (hr : r ∉ pick1W) :
    after pick1 V (Proc.devRef .tc r) = V (Proc.devRef .tc r) :=
  after_of_writes_sub pick1 V (forall_writes_sub_of_map rfl) hr

theorem near2_keeps (V : Valuation τ sig (Elt F)) {r : Ref sig .tc} (hr : r ∉ near2W) :
    after near2 V (Proc.devRef .tc r) = V (Proc.devRef .tc r) :=
  after_of_writes_sub near2 V (forall_writes_sub_of_map rfl) hr

theorem pick2_keeps (V : Valuation τ sig (Elt F)) {r : Ref sig .tc} (hr : r ∉ pick2W) :
    after pick2 V (Proc.devRef .tc r) = V (Proc.devRef .tc r) :=
  after_of_writes_sub pick2 V (forall_writes_sub_of_map rfl) hr

theorem near3_keeps (V : Valuation τ sig (Elt F)) {r : Ref sig .tc} (hr : r ∉ near3W) :
    after near3 V (Proc.devRef .tc r) = V (Proc.devRef .tc r) :=
  after_of_writes_sub near3 V (forall_writes_sub_of_map rfl) hr

theorem pick3_keeps (V : Valuation τ sig (Elt F)) {r : Ref sig .tc} (hr : r ∉ pick3W) :
    after pick3 V (Proc.devRef .tc r) = V (Proc.devRef .tc r) :=
  after_of_writes_sub pick3 V (forall_writes_sub_of_map rfl) hr

theorem join_keeps (V : Valuation τ sig (Elt F)) {r : Ref sig .tc} (hr : r ∉ joinW) :
    after join V (Proc.devRef .tc r) = V (Proc.devRef .tc r) :=
  after_of_writes_sub join V (forall_writes_sub_of_map rfl) hr

/-- The four quarters of the input, after `slices`. -/
theorem slices_read (V : Valuation τ sig (Elt F)) :
    after slices V (main_v1 : DevRef τ sig) = Spec.quarter0 (V (main_arg0 : DevRef τ sig))
    ∧ after slices V (main_v2 : DevRef τ sig) = Spec.quarter1 (V (main_arg0 : DevRef τ sig))
    ∧ after slices V (main_v3 : DevRef τ sig) = Spec.quarter2 (V (main_arg0 : DevRef τ sig))
    ∧ after slices V (main_v4 : DevRef τ sig) = Spec.quarter3 (V (main_arg0 : DevRef τ sig)) := by
  refine ⟨?_, ?_, ?_, ?_⟩ <;> (after_results; rfl)

/-- The nearest codewords' numbers and the codebook of quarter 0, after `near0`. -/
theorem near0_read (V : Valuation τ sig (Elt F)) :
    after near0 V (main_v23 : DevRef τ sig)
      = Spec.nearest (Spec.distances (V (main_v1 : DevRef τ sig)) (Spec.book0 (V (main_arg1 : DevRef τ sig))))
    ∧ after near0 V (main_v6 : DevRef τ sig) = Spec.book0 (V (main_arg1 : DevRef τ sig)) := by
  rw [Spec.nearest_fun]
  constructor <;> (after_results; rfl)

/-- The codewords of quarter 0 and their straight-through form, after `pick0`. -/
theorem pick0_read (V : Valuation τ sig (Elt F)) :
    after pick0 V (main_v26 : DevRef τ sig) = Spec.picked (V (main_v6 : DevRef τ sig)) (V (main_v23 : DevRef τ sig))
    ∧ after pick0 V (main_v28 : DevRef τ sig)
      = Spec.through (V (main_v1 : DevRef τ sig)) (Spec.picked (V (main_v6 : DevRef τ sig)) (V (main_v23 : DevRef τ sig))) := by
  constructor <;> (after_results; rfl)

/-- The nearest codewords' numbers and the codebook of quarter 1, after `near1`. -/
theorem near1_read (V : Valuation τ sig (Elt F)) :
    after near1 V (main_v47 : DevRef τ sig)
      = Spec.nearest (Spec.distances (V (main_v2 : DevRef τ sig)) (Spec.book1 (V (main_arg1 : DevRef τ sig))))
    ∧ after near1 V (main_v30 : DevRef τ sig) = Spec.book1 (V (main_arg1 : DevRef τ sig)) := by
  rw [Spec.nearest_fun]
  constructor <;> (after_results; rfl)

/-- The codewords of quarter 1 and their straight-through form, after `pick1`. -/
theorem pick1_read (V : Valuation τ sig (Elt F)) :
    after pick1 V (main_v50 : DevRef τ sig) = Spec.picked (V (main_v30 : DevRef τ sig)) (V (main_v47 : DevRef τ sig))
    ∧ after pick1 V (main_v52 : DevRef τ sig)
      = Spec.through (V (main_v2 : DevRef τ sig)) (Spec.picked (V (main_v30 : DevRef τ sig)) (V (main_v47 : DevRef τ sig))) := by
  constructor <;> (after_results; rfl)

/-- The nearest codewords' numbers and the codebook of quarter 2, after `near2`. -/
theorem near2_read (V : Valuation τ sig (Elt F)) :
    after near2 V (main_v71 : DevRef τ sig)
      = Spec.nearest (Spec.distances (V (main_v3 : DevRef τ sig)) (Spec.book2 (V (main_arg1 : DevRef τ sig))))
    ∧ after near2 V (main_v54 : DevRef τ sig) = Spec.book2 (V (main_arg1 : DevRef τ sig)) := by
  rw [Spec.nearest_fun]
  constructor <;> (after_results; rfl)

/-- The codewords of quarter 2 and their straight-through form, after `pick2`. -/
theorem pick2_read (V : Valuation τ sig (Elt F)) :
    after pick2 V (main_v74 : DevRef τ sig) = Spec.picked (V (main_v54 : DevRef τ sig)) (V (main_v71 : DevRef τ sig))
    ∧ after pick2 V (main_v76 : DevRef τ sig)
      = Spec.through (V (main_v3 : DevRef τ sig)) (Spec.picked (V (main_v54 : DevRef τ sig)) (V (main_v71 : DevRef τ sig))) := by
  constructor <;> (after_results; rfl)

/-- The nearest codewords' numbers and the codebook of quarter 3, after `near3`. -/
theorem near3_read (V : Valuation τ sig (Elt F)) :
    after near3 V (main_v95 : DevRef τ sig)
      = Spec.nearest (Spec.distances (V (main_v4 : DevRef τ sig)) (Spec.book3 (V (main_arg1 : DevRef τ sig))))
    ∧ after near3 V (main_v78 : DevRef τ sig) = Spec.book3 (V (main_arg1 : DevRef τ sig)) := by
  rw [Spec.nearest_fun]
  constructor <;> (after_results; rfl)

/-- The codewords of quarter 3 and their straight-through form, after `pick3`. -/
theorem pick3_read (V : Valuation τ sig (Elt F)) :
    after pick3 V (main_v98 : DevRef τ sig) = Spec.picked (V (main_v78 : DevRef τ sig)) (V (main_v95 : DevRef τ sig))
    ∧ after pick3 V (main_v100 : DevRef τ sig)
      = Spec.through (V (main_v4 : DevRef τ sig)) (Spec.picked (V (main_v78 : DevRef τ sig)) (V (main_v95 : DevRef τ sig))) := by
  constructor <;> (after_results; rfl)

/-- The two results, after `join`. -/
theorem join_read (V : Valuation τ sig (Elt F)) :
    after join V (main_v102 : DevRef τ sig)
      = Spec.joined (V (main_v28 : DevRef τ sig)) (V (main_v52 : DevRef τ sig)) (V (main_v76 : DevRef τ sig)) (V (main_v100 : DevRef τ sig))
    ∧ after join V (main_v104 : DevRef τ sig)
      = Spec.joined (V (main_v26 : DevRef τ sig)) (V (main_v50 : DevRef τ sig)) (V (main_v74 : DevRef τ sig)) (V (main_v98 : DevRef τ sig)) := by
  constructor <;> (after_results; rfl)

/-- One quarter's two runs of operations together. -/

theorem group0_read (V : Valuation τ sig (Elt F)) :
    after pick0 (after near0 V) (main_v26 : DevRef τ sig)
      = Spec.quantized (V (main_v1 : DevRef τ sig)) (Spec.book0 (V (main_arg1 : DevRef τ sig)))
    ∧ after pick0 (after near0 V) (main_v28 : DevRef τ sig)
      = Spec.through (V (main_v1 : DevRef τ sig))
          (Spec.quantized (V (main_v1 : DevRef τ sig)) (Spec.book0 (V (main_arg1 : DevRef τ sig)))) := by
  rw [(pick0_read _).1, (pick0_read _).2, (near0_read V).1, (near0_read V).2,
    near0_keeps (r := main_v1) V (by decide)]
  exact ⟨rfl, rfl⟩

theorem group0_keeps (V : Valuation τ sig (Elt F)) {r : Ref sig .tc} (h₁ : r ∉ near0W) (h₂ : r ∉ pick0W) :
    after pick0 (after near0 V) (Proc.devRef .tc r) = V (Proc.devRef .tc r) :=
  (pick0_keeps _ h₂).trans (near0_keeps _ h₁)

theorem group1_read (V : Valuation τ sig (Elt F)) :
    after pick1 (after near1 V) (main_v50 : DevRef τ sig)
      = Spec.quantized (V (main_v2 : DevRef τ sig)) (Spec.book1 (V (main_arg1 : DevRef τ sig)))
    ∧ after pick1 (after near1 V) (main_v52 : DevRef τ sig)
      = Spec.through (V (main_v2 : DevRef τ sig))
          (Spec.quantized (V (main_v2 : DevRef τ sig)) (Spec.book1 (V (main_arg1 : DevRef τ sig)))) := by
  rw [(pick1_read _).1, (pick1_read _).2, (near1_read V).1, (near1_read V).2,
    near1_keeps (r := main_v2) V (by decide)]
  exact ⟨rfl, rfl⟩

theorem group1_keeps (V : Valuation τ sig (Elt F)) {r : Ref sig .tc} (h₁ : r ∉ near1W) (h₂ : r ∉ pick1W) :
    after pick1 (after near1 V) (Proc.devRef .tc r) = V (Proc.devRef .tc r) :=
  (pick1_keeps _ h₂).trans (near1_keeps _ h₁)

theorem group2_read (V : Valuation τ sig (Elt F)) :
    after pick2 (after near2 V) (main_v74 : DevRef τ sig)
      = Spec.quantized (V (main_v3 : DevRef τ sig)) (Spec.book2 (V (main_arg1 : DevRef τ sig)))
    ∧ after pick2 (after near2 V) (main_v76 : DevRef τ sig)
      = Spec.through (V (main_v3 : DevRef τ sig))
          (Spec.quantized (V (main_v3 : DevRef τ sig)) (Spec.book2 (V (main_arg1 : DevRef τ sig)))) := by
  rw [(pick2_read _).1, (pick2_read _).2, (near2_read V).1, (near2_read V).2,
    near2_keeps (r := main_v3) V (by decide)]
  exact ⟨rfl, rfl⟩

theorem group2_keeps (V : Valuation τ sig (Elt F)) {r : Ref sig .tc} (h₁ : r ∉ near2W) (h₂ : r ∉ pick2W) :
    after pick2 (after near2 V) (Proc.devRef .tc r) = V (Proc.devRef .tc r) :=
  (pick2_keeps _ h₂).trans (near2_keeps _ h₁)

theorem group3_read (V : Valuation τ sig (Elt F)) :
    after pick3 (after near3 V) (main_v98 : DevRef τ sig)
      = Spec.quantized (V (main_v4 : DevRef τ sig)) (Spec.book3 (V (main_arg1 : DevRef τ sig)))
    ∧ after pick3 (after near3 V) (main_v100 : DevRef τ sig)
      = Spec.through (V (main_v4 : DevRef τ sig))
          (Spec.quantized (V (main_v4 : DevRef τ sig)) (Spec.book3 (V (main_arg1 : DevRef τ sig)))) := by
  rw [(pick3_read _).1, (pick3_read _).2, (near3_read V).1, (near3_read V).2,
    near3_keeps (r := main_v4) V (by decide)]
  exact ⟨rfl, rfl⟩

theorem group3_keeps (V : Valuation τ sig (Elt F)) {r : Ref sig .tc} (h₁ : r ∉ near3W) (h₂ : r ∉ pick3W) :
    after pick3 (after near3 V) (Proc.devRef .tc r) = V (Proc.devRef .tc r) :=
  (pick3_keeps _ h₂).trans (near3_keeps _ h₁)

/-- What the whole line leaves, cut by cut. -/
theorem after_ops (V : Valuation τ sig (Elt F)) :
    after ops V = after join (after pick3 (after near3 (after pick2 (after near2 (after pick1 (after near1
      (after pick0 (after near0 (after slices V))))))))) := by
  simp only [ops, after_append]

/-- The first result of the whole line. -/
theorem straight_eq (V : Valuation τ sig (Elt F)) :
    after ops V (main_v102 : DevRef τ sig) = Spec.straight (V (main_arg0 : DevRef τ sig)) (V (main_arg1 : DevRef τ sig)) := by
  rw [after_ops, (join_read _).1]
  rw [group3_keeps (r := main_v28) _ (by decide) (by decide),
    group2_keeps (r := main_v28) _ (by decide) (by decide),
    group1_keeps (r := main_v28) _ (by decide) (by decide),
    group3_keeps (r := main_v52) _ (by decide) (by decide),
    group2_keeps (r := main_v52) _ (by decide) (by decide),
    group3_keeps (r := main_v76) _ (by decide) (by decide),
    (group3_read _).2,
    (group2_read _).2,
    (group1_read _).2,
    (group0_read _).2]
  have a0 := slices_keeps (r := main_arg1) V (by decide)
  have a1 := (group0_keeps (r := main_arg1) _ (by decide) (by decide)).trans a0
  have a2 := (group1_keeps (r := main_arg1) _ (by decide) (by decide)).trans a1
  have a3 := (group2_keeps (r := main_arg1) _ (by decide) (by decide)).trans a2
  rw [a3, a2, a1, a0, group2_keeps (r := main_v4) _ (by decide) (by decide),
    group1_keeps (r := main_v4) _ (by decide) (by decide),
    group0_keeps (r := main_v4) _ (by decide) (by decide),
    group1_keeps (r := main_v3) _ (by decide) (by decide),
    group0_keeps (r := main_v3) _ (by decide) (by decide),
    group0_keeps (r := main_v2) _ (by decide) (by decide)]
  obtain ⟨h0, h1, h2, h3⟩ := slices_read V
  rw [h0, h1, h2, h3]
  rfl

/-- The second result of the whole line. -/
theorem detached_eq (V : Valuation τ sig (Elt F)) :
    after ops V (main_v104 : DevRef τ sig) = Spec.detached (V (main_arg0 : DevRef τ sig)) (V (main_arg1 : DevRef τ sig)) := by
  rw [after_ops, (join_read _).2]
  rw [group3_keeps (r := main_v26) _ (by decide) (by decide),
    group2_keeps (r := main_v26) _ (by decide) (by decide),
    group1_keeps (r := main_v26) _ (by decide) (by decide),
    group3_keeps (r := main_v50) _ (by decide) (by decide),
    group2_keeps (r := main_v50) _ (by decide) (by decide),
    group3_keeps (r := main_v74) _ (by decide) (by decide),
    (group3_read _).1,
    (group2_read _).1,
    (group1_read _).1,
    (group0_read _).1]
  have a0 := slices_keeps (r := main_arg1) V (by decide)
  have a1 := (group0_keeps (r := main_arg1) _ (by decide) (by decide)).trans a0
  have a2 := (group1_keeps (r := main_arg1) _ (by decide) (by decide)).trans a1
  have a3 := (group2_keeps (r := main_arg1) _ (by decide) (by decide)).trans a2
  rw [a3, a2, a1, a0, group2_keeps (r := main_v4) _ (by decide) (by decide),
    group1_keeps (r := main_v4) _ (by decide) (by decide),
    group0_keeps (r := main_v4) _ (by decide) (by decide),
    group1_keeps (r := main_v3) _ (by decide) (by decide),
    group0_keeps (r := main_v3) _ (by decide) (by decide),
    group0_keeps (r := main_v2) _ (by decide) (by decide)]
  obtain ⟨h0, h1, h2, h3⟩ := slices_read V
  rw [h0, h1, h2, h3]
  rfl

/-- No operation writes an argument. -/
theorem args_keep (V : Valuation τ sig (Elt F)) {r : Ref sig .tc} (h : r = main_arg0 ∨ r = main_arg1) :
    after ops V (Proc.devRef .tc r) = V (Proc.devRef .tc r) := by
  rw [after_ops]
  rcases h with rfl | rfl <;>
  rw [join_keeps _ (by decide), group3_keeps _ (by decide) (by decide), group2_keeps _ (by decide) (by decide),
    group1_keeps _ (by decide) (by decide), group0_keeps _ (by decide) (by decide), slices_keeps _ (by decide)]

/-- Nothing is scoped on this signature. -/
theorem scopedRefs_eq : (Finset.univ.filter fun b : Ref sig .tc => b.isScoped) = ∅ := by decide +kernel
theorem scopedSems_eq : (Finset.univ.filter fun sm : SemLoc sig => sm.isScoped .tc) = ∅ := by decide +kernel

/-- Every operation touches TensorCore references only. -/
theorem ops_sub : (ops : List (HloOp τ sig (Elt F))).Forall fun op => op.bufs ⊆ tcRefs τ sig := by
  simp only [ops, List.cons_append, List.nil_append, List.forall_cons, List.Forall, nullary_bufs_sub, unary_bufs_sub,
    binary_bufs_sub, ternary_bufs_sub, quaternary_bufs_sub, reshape_bufs_sub, nary_bufs_sub, and_self]

theorem ops_fresh : (ops : List (HloOp τ sig (Elt F))).Forall fun op => op.fresh = ∅ :=
  forall_fresh_of_map rfl

/-- The run: from any memory with zero counters every fair execution terminates, the two results hold `Spec.straight` and
    `Spec.detached` of the arguments, the arguments are unchanged and every counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v102)
            = Spec.straight (m ((c.tc : Thread nD τ).loc main_arg0)) (m ((c.tc : Thread nD τ).loc main_arg1))
        ∧ r.2.mem ((c.tc : Thread nD τ).loc main_v104)
            = Spec.detached (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v102).trans (straight_eq _), (h c main_v104).trans (detached_eq _),
      (h c main_arg0).trans (args_keep _ (.inl rfl)), (h c main_arg1).trans (args_keep _ (.inr rfl))⟩,
      sem_eq_zero_of_no_sems (by decide) r.2⟩)
    (run_seq scopedRefs_eq scopedSems_eq defs main (fun _ => ops) main_eq (fun _ => ops_sub) m ρ
      (fun _ => List.forall_iff_forall_mem.mp ops_fresh))

end Cert.Proof.Ref

end
-- ==== Proof.Nearest.lean ====
/-
  One vector against one codebook, over the extended reals: the quantity the kernel compares, the squared distance the
  reference compares, and what both make of a vector that has one nearest codeword.
-/
module

public import Idealize.ShloMosaic.Lib.Pointwise
public import Idealize.ShloMosaic.Lib.IndicatorCount

@[expose] public section

noncomputable section

namespace Cert.Proof.Nearest

open Idealize.ShloMosaic

/-- What the kernel compares: half the square of codeword `k` less its product with the vector. -/
def gap (cb : Fin 1024 → Fin 128 → EReal) (v : Fin 128 → EReal) (k : Fin 1024) : EReal :=
  Ideal.ofBits .f32 0x3F000000#32 * (∑ c, cb k c * cb k c) - ∑ c, cb k c * v c

/-- What the reference compares: the squared distance of the vector to codeword `k`. -/
def dist (cb : Fin 1024 → Fin 128 → EReal) (v : Fin 128 → EReal) (k : Fin 1024) : EReal :=
  (∑ c, v c * v c) - (∑ c, Ideal.ofBits .f32 0x40000000#32 * v c * cb k c) + ∑ c, cb k c * cb k c

/-- The least of 1024 values, as a fold from positive infinity. -/
def least (d : Fin 1024 → EReal) : EReal := Finset.univ.fold min (Ideal.ofBits .f32 0x7F800000#32) d

/-- What the kernel stores: the sum of the codewords whose gap is the least one. -/
def column (cb : Fin 1024 → Fin 128 → EReal) (v : Fin 128 → EReal) (c : Fin 128) : EReal :=
  ∑ k, cb k c * FloatOps.sitofp (F := Ideal) .f32 (BitVec.setWidth 32 (BitVec.ofBool (decide (gap cb v k = least (gap cb v)))))

/-- Codeword `n` is nearer than every other one. -/
def Alone (d : Fin 1024 → EReal) (n : Fin 1024) : Prop := ∀ k, k ≠ n → d n < d k

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem top_eq : Ideal.ofBits .f32 0x7F800000#32 = ⊤ := by simp [Ideal.ofBits, Ideal.ieee]

/-- The double of a sum is the sum of the doubles, whatever is infinite. -/
theorem two_mul_sum {ι : Type} (s : Finset ι) (f : ι → EReal) : ((2 : ℝ) : EReal) * ∑ i ∈ s, f i = ∑ i ∈ s, ((2 : ℝ) : EReal) * f i := by
  classical
  induction s using Finset.induction_on with
  | empty => simp
  | insert a s ha ih =>
    rw [Finset.sum_insert ha, Finset.sum_insert ha, ← ih, EReal.left_distrib_of_nonneg_of_ne_top (by norm_num) (EReal.coe_ne_top _)]

/-- A squared distance is the vector's square and twice the gap, whatever is infinite. -/
theorem dist_eq (cb : Fin 1024 → Fin 128 → EReal) (v : Fin 128 → EReal) (k : Fin 1024) :
    dist cb v k = (∑ c, v c * v c) + ((2 : ℝ) : EReal) * gap cb v k := by
  have prod : ∑ c, ((2 : ℝ) : EReal) * v c * cb k c = ((2 : ℝ) : EReal) * ∑ c, cb k c * v c := by
    rw [two_mul_sum]
    exact Finset.sum_congr rfl fun c _ => by rw [mul_assoc, mul_comm (v c)]
  have one : ((2 : ℝ) : EReal) * ((1 / 2 : ℝ) : EReal) = 1 := by
    rw [← EReal.coe_mul]
    norm_num
  unfold dist gap
  rw [two_eq, half_eq, prod, sub_eq_add_neg (_ * _), EReal.left_distrib_of_nonneg_of_ne_top (by norm_num) (EReal.coe_ne_top _),
    ← mul_assoc, one, one_mul, mul_neg, sub_eq_add_neg, add_assoc, add_comm (-_)]

/-- The nearest codeword by squared distance is the nearest one by the gap. -/
theorem alone_gap (cb : Fin 1024 → Fin 128 → EReal) (v : Fin 128 → EReal) (n : Fin 1024) (h : Alone (dist cb v) n) :
    Alone (gap cb v) n := by
  intro k hk
  refine lt_of_not_ge fun e => (h k hk).not_ge ?_
  rw [dist_eq, dist_eq]
  exact add_le_add le_rfl (mul_le_mul_of_nonneg_left e (by norm_num))

/-- A value below another one is below positive infinity. -/
theorem lt_top_of_alone (d : Fin 1024 → EReal) (n : Fin 1024) (h : Alone d n) : d n < (⊤ : EReal) := by
  obtain ⟨k, hk⟩ := exists_ne n
  exact (h k hk).trans_le le_top

/-- The least value is the one that is below every other. -/
theorem least_of_alone (d : Fin 1024 → EReal) (n : Fin 1024) (h : Alone d n) : least d = d n := by
  unfold least
  rw [top_eq]
  refine le_antisymm ((Finset.le_fold_min _).1 le_rfl |>.2 n (Finset.mem_univ n)) ((Finset.le_fold_min _).2 ⟨le_top, fun k _ => ?_⟩)
  by_cases e : k = n
  · rw [e]
  · exact (h k e).le

/-- Where one codeword alone is nearest the kernel's sum is that codeword. -/
theorem column_eq (cb : Fin 1024 → Fin 128 → EReal) (v : Fin 128 → EReal) (c : Fin 128) (n : Fin 1024) (h : Alone (gap cb v) n) :
    column cb v c = cb n c := by
  have ind : ∀ k, FloatOps.sitofp (F := Ideal) .f32 (BitVec.setWidth 32 (BitVec.ofBool (decide (gap cb v k = least (gap cb v)))))
      = if k = n then (1 : EReal) else 0 := fun k => by
    rw [least_of_alone _ n h]
    by_cases e : k = n
    · subst e
      simp [FloatOps.sitofp]
    · simp [FloatOps.sitofp, e, (h k e).ne']
  unfold column
  simp only [ind]
  rw [Finset.sum_eq_single n (fun k _ e => by rw [if_neg e, mul_zero]) fun e => absurd (Finset.mem_univ n) e, if_pos rfl, mul_one]

/-- When exactly one codeword is at the least distance, it alone is nearest. -/
theorem alone_of_count (d : Fin 1024 → EReal)
    (h : Finset.univ.fold IntOp.addi (0#32) (fun k => (Ideal.cmp .oeq (d k) (least d)).setWidth 32) = 1#32) :
    ∃ n, Alone d n := by
  rw [IndicatorCount.fold_addi_setWidth_eq_card] at h
  have hc := congrArg BitVec.toNat h
  rw [BitVec.toNat_ofNat, BitVec.toNat_ofNat, Nat.mod_eq_of_lt, Nat.mod_eq_of_lt (by omega)] at hc
  · obtain ⟨n, hn⟩ := Finset.card_eq_one.1 hc
    have mem : ∀ k, Ideal.cmp .oeq (d k) (least d) = 1#1 ↔ k = n := fun k => by
      rw [← Finset.mem_singleton (a := n), ← hn, Finset.mem_filter]
      simp
    have at_iff : ∀ k, d k = least d ↔ k = n := fun k => by
      rw [← mem k]
      by_cases e : d k = least d <;> simp [Ideal.cmp, e]
    refine ⟨n, fun k hk => ?_⟩
    rw [(at_iff n).2 rfl]
    exact lt_of_le_of_ne ((Finset.le_fold_min _).1 le_rfl |>.2 k (Finset.mem_univ k)) fun e => hk ((at_iff k).1 e.symm)
  · exact lt_of_le_of_lt (Finset.card_le_univ _) (by simp)

/-- The straight-through form of a value, at a real number, is that value. -/
theorem through_coe (s : ℝ) (q : EReal) : (s : EReal) + (q - (s : EReal)) = q := by
  rw [add_comm, EReal.sub_add_cancel]

end Cert.Proof.Nearest

end
-- ==== Proof.Block.lean ====
/-
  What the kernel writes: an element of a block, as a function of the codebook and of the block's vectors.
-/
module

public import proofs.«01_k».proof.Proof.Gen.KernelIdeal.Frame
public import Idealize.ShloMosaic.Lib.Pipeline.ValueKit
public import proofs.«01_k».proof.Proof.Nearest

@[expose] public section

set_option maxRecDepth 16384

noncomputable section

namespace Cert.Proof.Block

open Cert.KernelIdeal Cert.KernelIdeal.Gen Cert.KernelIdeal.Facts
open Idealize.ShloMosaic Idealize.ShloMosaic.Pointwise Cert.Proof.Nearest

/-- One of the eight slabs a point stores: at row `c` and position `t`, the column of the codebook `w` and the vector at `t`. -/
theorem pay_apply (w : Vec Ideal S1x1024x128 .f32) (x : Vec Ideal S1x1x128x512 .f32) (c : Fin 128) (t : Fin 512) :
    k0_pay6 w x (ix4 0 0 c t) = column (fun k c => w (ix3 0 k c)) (fun c => x (ix4 0 0 c t)) c := by
  pointwise [k0_pay6, k0_pay5, k0_pay4, k0_pay3, k0_pay2]
  rfl

/-- A point's block as one function of the input block and the codebook. -/
def tile (x0 : Vec Ideal S8x1x128x512 .f32) (x1 : Vec Ideal S1x1024x128 .f32) (j : S8x1x128x512.Idx) : EReal :=
  column (fun k c => x1 (ix3 0 k c)) (fun c => x0 (ix4 (j 0) 0 c (j 3))) (j 2)

/-- The stores of a point, the last one first: slab `i` is the payload of slab `i` of the input block. -/
def slabs (x0 : Vec Ideal S8x1x128x512 .f32) (x1 : Vec Ideal S1x1024x128 .f32) : List (View.Piece (Elt Ideal) S8x1x128x512 .f32) :=
  [⟨r0_8, k0_pay6 (View.ld x1 r0_0) (View.ld x0 r0_8)⟩, ⟨r0_7, k0_pay6 (View.ld x1 r0_0) (View.ld x0 r0_7)⟩,
    ⟨r0_6, k0_pay6 (View.ld x1 r0_0) (View.ld x0 r0_6)⟩, ⟨r0_5, k0_pay6 (View.ld x1 r0_0) (View.ld x0 r0_5)⟩,
    ⟨r0_4, k0_pay6 (View.ld x1 r0_0) (View.ld x0 r0_4)⟩, ⟨r0_3, k0_pay6 (View.ld x1 r0_0) (View.ld x0 r0_3)⟩,
    ⟨r0_2, k0_pay6 (View.ld x1 r0_0) (View.ld x0 r0_2)⟩, ⟨r0_1, k0_pay6 (View.ld x1 r0_0) (View.ld x0 r0_1)⟩]

/-- Both outputs receive these stores. -/
theorem out2_eq (x0 : Vec Ideal S8x1x128x512 .f32) (x1 : Vec Ideal S1x1024x128 .f32) : out0_2 x0 x1 = View.canon (slabs x0 x1) := rfl
theorem out3_eq (x0 : Vec Ideal S8x1x128x512 .f32) (x1 : Vec Ideal S1x1024x128 .f32) : out0_3 x0 x1 = View.canon (slabs x0 x1) := rfl

/-- One store, read where it lies in the block. -/
theorem slab_apply (x0 : Vec Ideal S8x1x128x512 .f32) (x1 : Vec Ideal S1x1024x128 .f32) (off : Fin 4 → ℕ)
    (inb : ∀ a, off a + S1x1x128x512.size a ≤ S8x1x128x512.size a) (x : S1x1x128x512.Idx) (y : S8x1x128x512.Idx)
    (h : ∀ a, (y a : ℕ) = off a + x a) (h2 : off 2 = 0) (h3 : off 3 = 0) :
    k0_pay6 (View.ld x1 r0_0) (View.ld x0 (Rect.unit (s := S8x1x128x512) off S1x1x128x512.size inb)) x = tile x0 x1 y := by
  have hx : x = ix4 0 0 (x 2) (x 3) := by
    funext a
    match a with
    | 0 => exact Subsingleton.elim (α := Fin 1) _ _
    | 1 => exact Subsingleton.elim (α := Fin 1) _ _
    | 2 => rfl
    | 3 => rfl
  have e2 : y 2 = x 2 := Fin.ext (by rw [h 2, h2, Nat.zero_add])
  have e3 : y 3 = x 3 := Fin.ext (by rw [h 3, h3, Nat.zero_add])
  have hw : View.ld x1 r0_0 = x1 := View.ld_unit_lit _ _ (by decide)
  have hv : ∀ c, View.ld x0 (Rect.unit (s := S8x1x128x512) off S1x1x128x512.size inb) (ix4 0 0 c (x 3)) = x0 (ix4 (y 0) 0 c (y 3)) := fun c => by
    refine View.ld_unit_apply_of _ _ _ _ _ _ fun a => ?_
    match a with
    | 0 =>
      have := (x 0).isLt
      show (y 0 : ℕ) = off 0 + 0
      rw [h 0, Nat.lt_one_iff.1 this]
    | 1 =>
      have := inb 1
      show 0 = off 1 + 0
      have : off 1 + 1 ≤ 1 := this
      omega
    | 2 =>
      show (c : ℕ) = off 2 + c
      rw [h2, Nat.zero_add]
    | 3 =>
      show (y 3 : ℕ) = off 3 + x 3
      exact h 3
  rw [hw]
  refine (congrArg (k0_pay6 x1 _) hx).trans ((pay_apply x1 _ (x 2) (x 3)).trans ?_)
  unfold tile
  rw [e2]
  simp only [hv]

/-- What a point leaves in an output's buffer. -/
theorem canon_slabs (x0 : Vec Ideal S8x1x128x512 .f32) (x1 : Vec Ideal S1x1024x128 .f32) : View.canon (slabs x0 x1) = tile x0 x1 := by
  funext y
  unfold slabs
  refine View.canon_eq_of_allAt _ y _ (cover0_2 _ _ _ _ _ _ _ _ y) ?_
  repeat
    first
    | exact View.allAt_nil _ _
    | refine View.allAt_cons_unit _ _ _ _ _ (fun x h => slab_apply x0 x1 _ _ x y h rfl rfl) ?_

end Cert.Proof.Block

end
-- ==== Proof.Run.lean ====
/-
  The kernel's run: what it leaves in its two results.
-/
module

public import proofs.«01_k».proof.Proof.Block
public import proofs.«01_k».proof.Proof.Gen.KernelIdeal.Points

@[expose] public section

set_option maxRecDepth 16384

noncomputable section

namespace Cert.Proof.Run

open Cert.KernelIdeal Cert.KernelIdeal.Gen Cert.KernelIdeal.Facts
open Idealize.ShloMosaic Idealize.ShloMosaic.Pointwise Cert.Proof.Nearest Cert.Proof.Block
open Idealize.ShloMosaic.StableHlo

variable (m : (ℓ : Loc nD τ sig) → Buf (Elt Ideal) ℓ)

/-- The kernel's result in the layout of four groups, of the grouped input `x` and the codebooks `cb`. -/
def whole (x : S16x4x128x512.Idx → EReal) (cb : S4x1024x128.Idx → EReal) : S16x4x128x512.Idx → EReal :=
  fun j => column (fun k c => cb (ix3 (j 1) k c)) (fun c => x (ix4 (j 0) (j 1) c (j 3))) (j 2)

/-- The grouped input as the grid finds it. -/
theorem V_v0 (c : Dev nD) : V m c main_v0 = shapeCast S16x4x128x512 (m ((c.tc : Thread nD τ).loc main_arg0)) shapeCasts_S16x2x256x512_S16x4x128x512 := by
  show after hostOps0 (fun b => m (c, b)) (Proc.devRef .tc main_v0) = _
  after_results
  rfl

/-- The windows' blocks: at a point, batch half `coords 1` and group `coords 0`. -/
theorem idx0 : ∀ t : Fin cfg0.N, win0_0.index t = ![(grid0.coords t 1).val, (grid0.coords t 0).val, 0, 0] := by decide +kernel
theorem idx1 : ∀ t : Fin cfg0.N, win0_1.index t = ![(grid0.coords t 0).val, 0, 0] := by decide +kernel
theorem idx2 : ∀ t : Fin cfg0.N, win0_2.index t = ![(grid0.coords t 1).val, (grid0.coords t 0).val, 0, 0] := by decide +kernel
theorem idx3 : ∀ t : Fin cfg0.N, win0_3.index t = ![(grid0.coords t 1).val, (grid0.coords t 0).val, 0, 0] := by decide +kernel

theorem column_congr {cb cb' : Fin 1024 → Fin 128 → EReal} {v v' : Fin 128 → EReal} {c c' : Fin 128} (hb : ∀ k i, cb k i = cb' k i)
    (hv : ∀ i, v i = v' i) (hc : c = c') : column cb v c = column cb' v' c' := by
  obtain rfl : cb = cb' := funext fun k => funext fun i => hb k i
  obtain rfl : v = v' := funext hv
  rw [hc]

/-- The first result array after the grid. -/
theorem arr2 (c : Dev nD) : (dats m 0 c).arrAt 2 cfg0.N = whole (V m c main_v0) (V m c main_arg1) := by
  refine (dats m 0 c).arrAt_eq_of_covers 2 _ (by decide +kernel) fun t hf y => ?_
  blk_simp
  rw [after0_2, out2_eq, canon_slabs]
  refine column_congr (fun k i => ?_) (fun i => ?_) ?_
  · blk_ext [iblk, idx0 t, idx1 t, idx2 t]
  · blk_ext [iblk, idx0 t, idx1 t, idx2 t]
  · refine Fin.ext ?_
    blk_simp [idx2 t]

/-- The second result array after the grid: the same. -/
theorem arr3 (c : Dev nD) : (dats m 0 c).arrAt 3 cfg0.N = whole (V m c main_v0) (V m c main_arg1) := by
  refine (dats m 0 c).arrAt_eq_of_covers 3 _ (by decide +kernel) fun t hf y => ?_
  blk_simp
  rw [after0_3, out3_eq, canon_slabs]
  refine column_congr (fun k i => ?_) (fun i => ?_) ?_
  · blk_ext [iblk, idx0 t, idx1 t, idx3 t]
  · blk_ext [iblk, idx0 t, idx1 t, idx3 t]
  · refine Fin.ext ?_
    blk_simp [idx3 t]

/-- What the reshapes after the grid leave in the results. -/
theorem tail_v2 (c : Dev nD) : Pipeline.afterTail₀ cfgs (dats m) 0 (V0 m) [hostOps1] c main_v2
    = shapeCast S16x2x256x512 ((dats m 0 c).arrAt 2 cfg0.N) shapeCasts_S16x4x128x512_S16x2x256x512 := by
  have e := Pipeline.withArrays_arr spec0 launch0.win.arr_inj c (V0 m c) (fun w => (dats m 0 c).arrAt w cfg0.N) 2
  unfold Pipeline.afterTail₀
  show after hostOps1 _ (Proc.devRef .tc main_v2) = _
  after_results
  exact congrArg (fun X : S16x4x128x512.Idx → EReal => shapeCast S16x2x256x512 X shapeCasts_S16x4x128x512_S16x2x256x512) e
theorem tail_v3 (c : Dev nD) : Pipeline.afterTail₀ cfgs (dats m) 0 (V0 m) [hostOps1] c main_v3
    = shapeCast S16x2x256x512 ((dats m 0 c).arrAt 3 cfg0.N) shapeCasts_S16x4x128x512_S16x2x256x512 := by
  have e := Pipeline.withArrays_arr spec0 launch0.win.arr_inj c (V0 m c) (fun w => (dats m 0 c).arrAt w cfg0.N) 3
  unfold Pipeline.afterTail₀
  show after hostOps1 _ (Proc.devRef .tc main_v3) = _
  after_results
  exact congrArg (fun X : S16x4x128x512.Idx → EReal => shapeCast S16x2x256x512 X shapeCasts_S16x4x128x512_S16x2x256x512) e

/-- The kernel's result as a function of its arguments, in the layout of the input. -/
def result (x : FVec Ideal S16x2x256x512 .f32) (cb : FVec Ideal S4x1024x128 .f32) : FVec Ideal S16x2x256x512 .f32 :=
  shapeCast S16x2x256x512 (whole (shapeCast S16x4x128x512 x shapeCasts_S16x2x256x512_S16x4x128x512) cb)
    shapeCasts_S16x4x128x512_S16x2x256x512

/-- The kernel's run: both results end at `result` of the arguments, and the arguments are unchanged. -/
theorem run_results (ρ : Dev nD → PrngReg) : θ_run defs (onTc (τ := τ) (main (F := Ideal))) ⟨m, fun _ => 0, ρ⟩ fun r => ∀ c : Dev nD,
    r.2.mem ((c.tc : Thread nD τ).loc main_v2) = result (m ((c.tc : Thread nD τ).loc main_arg0)) (m ((c.tc : Thread nD τ).loc main_arg1))
    ∧ r.2.mem ((c.tc : Thread nD τ).loc main_v3) = result (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (θ_run_and (Gen.run_main m ρ) (Gen.unchanged m ρ))
  refine ⟨((h.1 c).2 main_v2 (Pipeline.mem_restRefs_of main_v2 (by decide) (by decide))).trans ?_,
    ((h.1 c).2 main_v3 (Pipeline.mem_restRefs_of main_v3 (by decide) (by decide))).trans ?_, h.2 c⟩
  · rw [tail_v2, arr2, V_v0, V_main_arg1]
    rfl
  · rw [tail_v3, arr3, V_v0, V_main_arg1]
    rfl

end Cert.Proof.Run

end
-- ==== Proof.Argmin.lean ====
/-
  The reference's arg-min over the columns of an array: on a row with one least element it is that element's column.
-/
module

public import proofs.«01_k».proof.Proof.Spec
public import proofs.«01_k».proof.Proof.Nearest

@[expose] public section

noncomputable section

namespace Cert.Proof.Argmin

open Cert.ReferenceIdeal Cert.ReferenceIdeal.Gen Cert.ReferenceIdeal.Facts
open Idealize.ShloMosaic Idealize.ShloMosaic.Pointwise Cert.Proof.Spec Cert.Proof.Nearest

/-- A pair with a smaller value on the left is kept. -/
theorem reducer_left (p q : EReal × BitVec 32) (h : p.1 < q.1) : reducer_argmin_f32_i32 (F := Ideal) p q = p := by
  have e : Ideal.cmp .olt p.1 q.1 = 1#1 := by simp [Ideal.cmp, h]
  have e' : Ideal.cmp .une p.1 p.1 = 0#1 := by simp [Ideal.cmp]
  have e'' : Ideal.cmp .oeq p.1 q.1 = 0#1 := by simp [Ideal.cmp, h.ne]
  simp [reducer_argmin_f32_i32, Ideal.cmpf_def, e, e', e'', IntOp.ori, IntOp.andi, Scalar.select]

/-- A pair with a smaller value on the right is taken. -/
theorem reducer_right (p q : EReal × BitVec 32) (h : q.1 < p.1) : reducer_argmin_f32_i32 (F := Ideal) p q = q := by
  have e : Ideal.cmp .olt p.1 q.1 = 0#1 := by simp [Ideal.cmp, decide_eq_false (not_lt.2 h.le)]
  have e' : Ideal.cmp .oeq p.1 q.1 = 0#1 := by simp [Ideal.cmp, h.ne']
  have e'' : Ideal.cmp .une p.1 p.1 = 0#1 := by simp [Ideal.cmp]
  simp [reducer_argmin_f32_i32, Ideal.cmpf_def, e, e', e'', IntOp.ori, IntOp.andi, Scalar.select]

/-- Two equal pairs give that pair. -/
theorem reducer_same (p : EReal × BitVec 32) : reducer_argmin_f32_i32 (F := Ideal) p p = p := by
  simp [reducer_argmin_f32_i32, Scalar.select]

/-- The fold over a list that holds a pair `q` and otherwise only pairs of a larger value ends at `q`. -/
theorem foldl_reducer (q : EReal × BitVec 32) (l : List (EReal × BitVec 32)) :
    ∀ a : EReal × BitVec 32, (a = q ∨ q.1 < a.1) → (∀ p ∈ l, p = q ∨ q.1 < p.1) → (a = q ∨ q ∈ l) →
      l.foldl (reducer_argmin_f32_i32 (F := Ideal)) a = q := by
  induction l with
  | nil => exact fun a _ _ h => h.resolve_right List.not_mem_nil
  | cons p l ih =>
    intro a ha hl hm
    have hl' : ∀ r ∈ l, r = q ∨ q.1 < r.1 := fun r hr => hl r (List.mem_cons_of_mem _ hr)
    rw [List.foldl_cons]
    rcases ha with rfl | ha
    · have e : reducer_argmin_f32_i32 (F := Ideal) a p = a := by
        rcases hl p List.mem_cons_self with rfl | h
        · exact reducer_same _
        · exact reducer_left _ _ h
      rw [e]
      exact ih a (Or.inl rfl) hl' (Or.inl rfl)
    · rcases hl p List.mem_cons_self with rfl | h
      · rw [reducer_right _ _ ha]
        exact ih p (Or.inl rfl) hl' (Or.inl rfl)
      · have hq : q ∈ l := by
          rcases hm with rfl | hm
          · exact absurd ha (lt_irrefl _)
          · rcases List.mem_cons.1 hm with rfl | hm
            · exact absurd h (lt_irrefl _)
            · exact hm
        refine ih _ (Or.inr ?_) hl' (Or.inr hq)
        have both : (reducer_argmin_f32_i32 (F := Ideal) a p).1 = a.1 ∨ (reducer_argmin_f32_i32 (F := Ideal) a p).1 = p.1 := by
          show Scalar.select _ a.1 p.1 = _ ∨ Scalar.select _ a.1 p.1 = _
          unfold Scalar.select
          split
          · exact Or.inl rfl
          · exact Or.inr rfl
        rcases both with e | e <;> rw [e] <;> assumption

/-- The pairs folded at row `r` of an array of rows: element and column number, for every column. -/
theorem mem_fiber {R K : ℕ} (d : FVec Ideal ⟨2, ![R, K]⟩ .f32) (h : (⟨2, ![R, K]⟩ : Shape).ReducesTo [1] ⟨1, ![R]⟩) (r : Fin R)
    (p : EReal × BitVec 32) :
    p ∈ Host.argReduceFiber d (iotaInDim ⟨2, ![R, K]⟩ 32 1) h (ix1 r) ↔ ∃ k : Fin K, p = (d (ix2 r k), BitVec.ofNat 32 k.val) := by
  have drop : ∀ i : (⟨2, ![R, K]⟩ : Shape).Idx, h.drop i = ix1 r ↔ (i 0).val = r.val := fun i => by
    have e : (h.drop i 0 : ℕ) = i 0 := h.drop_apply_val i 0
    constructor
    · intro hi
      rw [← e, hi]
      rfl
    · intro hi
      funext a
      obtain rfl : a = 0 := Subsingleton.elim _ _
      exact Fin.ext (e.trans hi)
  unfold Host.argReduceFiber
  rw [List.mem_map]
  constructor
  · rintro ⟨n, hn, rfl⟩
    rw [List.mem_filter] at hn
    have hd := (drop _).1 (of_decide_eq_true hn.2)
    refine ⟨(⟨2, ![R, K]⟩ : Shape).rowMajor.symm n 1, Prod.ext (congrArg d ?_) rfl⟩
    funext a
    match a with
    | ⟨0, _⟩ => exact Fin.ext hd
    | ⟨1, _⟩ => rfl
  · rintro ⟨k, rfl⟩
    refine ⟨(⟨2, ![R, K]⟩ : Shape).rowMajor (ix2 r k), List.mem_filter.2 ⟨List.mem_finRange _, decide_eq_true ?_⟩, ?_⟩
    · rw [Equiv.symm_apply_apply]
      exact (drop _).2 rfl
    · rw [Equiv.symm_apply_apply]
      rfl

/-- The arg-min of a row with one least element, below positive infinity, is that element's column. -/
theorem argReduce_eq {R K : ℕ} (d : FVec Ideal ⟨2, ![R, K]⟩ .f32) (h : (⟨2, ![R, K]⟩ : Shape).ReducesTo [1] ⟨1, ![R]⟩) (r : Fin R)
    (n : Fin K) (hn : ∀ k, k ≠ n → d (ix2 r n) < d (ix2 r k)) (ht : d (ix2 r n) < (⊤ : EReal)) :
    Host.argReduce (reducer_argmin_f32_i32 (F := Ideal)) d (iotaInDim ⟨2, ![R, K]⟩ 32 1) (constant S_ .f32 0x7F800000#32)
      (constantI S_ 32 0#32) h h_S_ (ix1 r) = (d (ix2 r n), BitVec.ofNat 32 n.val) := by
  rw [Ideal.argReduce_eq_reduce2, Host.reduce2_eq_foldl_fiber]
  rw [foldl_reducer (d (ix2 r n), BitVec.ofNat 32 n.val) _ _ (Or.inr ?_) ?_ (Or.inr ?_)]
  · show d (ix2 r n) < Ideal.ofBits .f32 0x7F800000#32
    rw [top_eq]
    exact ht
  · intro p hp
    obtain ⟨k, rfl⟩ := (mem_fiber d h r p).1 hp
    by_cases e : k = n
    · exact Or.inl (by rw [e])
    · exact Or.inr (hn k e)
  · exact (mem_fiber d h r _).2 ⟨n, rfl⟩

/-- The least distance and the number of the nearest codeword, where one alone is nearest. -/
theorem first_apply (d : FVec Ideal S8192x1024 .f32) (r : Fin 8192) (n : Fin 1024) (hn : Alone (fun k => d (ix2 r k)) n)
    (ht : d (ix2 r n) < (⊤ : EReal)) : first d (ix1 r) = (d (ix2 r n), BitVec.ofNat 32 n.val) :=
  (first_eq d (ix1 r)).trans (argReduce_eq d reducesTo_S8192x1024_S8192_d1 r n hn ht)

/-- The number of the nearest codeword, where one alone is nearest. -/
theorem nearest_apply (d : FVec Ideal S8192x1024 .f32) (r : Fin 8192) (n : Fin 1024) (hn : Alone (fun k => d (ix2 r k)) n)
    (ht : d (ix2 r n) < (⊤ : EReal)) : nearest d (ix1 r) = BitVec.ofNat 32 n.val := by
  rw [nearest_eq, first_apply d r n hn ht]
  rfl
end Cert.Proof.Argmin

end
-- ==== Proof.Group.lean ====
/-
  The reference's functions read at an index: a quarter's vectors and distances, the codeword picked for a vector with one
  nearest codeword, and the element of a result as an element of its quarter.
-/
module

public import proofs.«01_k».proof.Proof.Argmin
public import Idealize.ShloMosaic.Lib.Routing.Ops

@[expose] public section

set_option maxRecDepth 16384

noncomputable section

namespace Cert.Proof.Group

open Cert.ReferenceIdeal Cert.ReferenceIdeal.Gen Cert.ReferenceIdeal.Facts
open Idealize.ShloMosaic Idealize.ShloMosaic.Pointwise Cert.Proof.Spec Cert.Proof.Nearest Cert.Proof.Argmin

/-- The row of the vector at batch entry `b` and position `t`. -/
abbrev row (b : Fin 16) (t : Fin 512) : Fin 8192 := ⟨b.val * 512 + t.val, by omega⟩

/-- Row `row b t` of the vectors is the column of the quarter at `b` and `t`. -/
theorem vectors_apply (s : FVec Ideal S16x128x512 .f32) (b : Fin 16) (t : Fin 512) (c : Fin 128) :
    vectors s (ix2 (row b t) c) = s (ix3 b c t) := by
  pointwise [vectors]
  congr 1
  have e1 : (b.val * 512 + t.val) / 512 = b.val := by omega
  have e2 : (b.val * 512 + t.val) % 512 = t.val := by omega
  simp only [e1, e2]

/-- The distances of a quarter, read at a row, are the squared distances of that row's column. -/
theorem distances_apply (s : FVec Ideal S16x128x512 .f32) (cb : FVec Ideal S1024x128 .f32) (b : Fin 16) (t : Fin 512) (k : Fin 1024) :
    distances s cb (ix2 (row b t) k) = dist (fun k c => cb (ix2 k c)) (fun c => s (ix3 b c t)) k := by
  have h : distances s cb (ix2 (row b t) k)
      = dist (fun k c => cb (ix2 k c)) (fun c => vectors s (ix2 (row b t) c)) k := by
    pointwise [distances]
    rfl
  rw [h]
  simp only [vectors_apply]

/-- The comparisons of a row number of the codebook with the codebook's bounds. -/
theorem bounds : ∀ k : Fin 1024, IntOp.cmpi .slt (BitVec.ofNat 32 k.val) 0#32 = 0#1
    ∧ IntOp.cmpi .sge (BitVec.ofNat 32 k.val) 0#32 = 1#1 ∧ IntOp.cmpi .sle (BitVec.ofNat 32 k.val) 1023#32 = 1#1 := by
  decide +kernel

/-- A row number inside the codebook picks that row. -/
theorem rowsAt_apply (cb : FVec Ideal S1024x128 .f32) (n : IVec S8192 32) (r : Fin 8192) (c : Fin 128) (k : Fin 1024)
    (h : n (ix1 r) = BitVec.ofNat 32 k.val) : rowsAt cb n (ix2 r c) = cb (ix2 k c) := by
  have slt := (bounds k).1
  have sge := (bounds k).2.1
  have sle := (bounds k).2.2
  have hr : rowNumbers n (ix2 r (0 : Fin 1)) = BitVec.ofNat 32 k.val := by
    pointwise [rowNumbers]
    rw [h, slt]
    rfl
  have hi : inside (rowNumbers n) (ix1 r) = 1#1 := by
    pointwise [inside]
    rw [Finset.fold_congr (g := fun _ => 1#1) fun x _ => ?_]
    · rfl
    · obtain rfl : x = 0 := Subsingleton.elim _ _
      rw [hr, sge, sle]
      rfl
  have hg : Host.gather gather_S1024x128_S8192x1_S8192x128_1_0_n_n_0_1_1128 cb (rowNumbers n) (ix2 r c) = cb (ix2 k c) :=
    Routing.gather_row _ rfl rfl rfl rfl rfl cb (rowNumbers n) r c k hr (by decide)
  unfold rowsAt
  pointwise
  rw [hi, hg]
  rfl

/-- The codewords picked, read in the layout of a quarter. -/
theorem picked_apply (cb : FVec Ideal S1024x128 .f32) (n : IVec S8192 32) (b : Fin 16) (t : Fin 512) (c : Fin 128) :
    picked cb n (ix3 b c t) = rowsAt cb n (ix2 (row b t) c) := by
  pointwise [picked]

/-- The element of a quarter's result at a vector with one nearest codeword. -/
theorem quantized_apply (s : FVec Ideal S16x128x512 .f32) (cb : FVec Ideal S1024x128 .f32) (b : Fin 16) (t : Fin 512) (c : Fin 128)
    (n : Fin 1024) (hn : Alone (dist (fun k c => cb (ix2 k c)) (fun c => s (ix3 b c t))) n)
    (ht : dist (fun k c => cb (ix2 k c)) (fun c => s (ix3 b c t)) n < (⊤ : EReal)) :
    quantized s cb (ix3 b c t) = cb (ix2 n c) := by
  unfold quantized
  rw [picked_apply]
  refine rowsAt_apply _ _ _ _ _ (nearest_apply _ _ n ?_ ?_)
  · simp only [distances_apply]
    exact hn
  · rw [distances_apply]
    exact ht

/-- Element `j` of the input in the layout of four groups: batch entry, group, row in the group, position. -/
def grouped {α : Type} (x : S16x2x256x512.Idx → α) (b : Fin 16) (g : Fin 4) (c : Fin 128) (t : Fin 512) : α :=
  x (ix4 b ⟨(g.val * 128 + c.val) / 256, by omega⟩ ⟨(g.val * 128 + c.val) % 256, by omega⟩ t)

/-- The quarters of the input are its groups. -/
theorem quarter0_apply (x : FVec Ideal S16x2x256x512 .f32) (b : Fin 16) (c : Fin 128) (t : Fin 512) :
    quarter0 x (ix3 b c t) = grouped x b 0 c t := by
  pointwise [quarter0, quarter]
  unfold grouped
  congr 3 <;> simp
theorem quarter1_apply (x : FVec Ideal S16x2x256x512 .f32) (b : Fin 16) (c : Fin 128) (t : Fin 512) :
    quarter1 x (ix3 b c t) = grouped x b 1 c t := by
  pointwise [quarter1, quarter]
  rfl
theorem quarter2_apply (x : FVec Ideal S16x2x256x512 .f32) (b : Fin 16) (c : Fin 128) (t : Fin 512) :
    quarter2 x (ix3 b c t) = grouped x b 2 c t := by
  pointwise [quarter2, quarter]
  rfl
theorem quarter3_apply (x : FVec Ideal S16x2x256x512 .f32) (b : Fin 16) (c : Fin 128) (t : Fin 512) :
    quarter3 x (ix3 b c t) = grouped x b 3 c t := by
  pointwise [quarter3, quarter]
  rfl

/-- The codebooks are the rows of the codebook argument. -/
theorem book0_apply (cb : FVec Ideal S4x1024x128 .f32) (k : Fin 1024) (c : Fin 128) : book0 cb (ix2 k c) = cb (ix3 0 k c) := by
  pointwise [book0, book]
theorem book1_apply (cb : FVec Ideal S4x1024x128 .f32) (k : Fin 1024) (c : Fin 128) : book1 cb (ix2 k c) = cb (ix3 1 k c) := by
  pointwise [book1, book]
theorem book2_apply (cb : FVec Ideal S4x1024x128 .f32) (k : Fin 1024) (c : Fin 128) : book2 cb (ix2 k c) = cb (ix3 2 k c) := by
  pointwise [book2, book]
theorem book3_apply (cb : FVec Ideal S4x1024x128 .f32) (k : Fin 1024) (c : Fin 128) : book3 cb (ix2 k c) = cb (ix3 3 k c) := by
  pointwise [book3, book]

/-- The groups of four joined quarters are those quarters. -/
theorem joined_apply {α : Type} (q : Fin 4 → S16x128x512.Idx → α) (b : Fin 16) (g : Fin 4) (c : Fin 128) (t : Fin 512) :
    grouped (joined (q 0) (q 1) (q 2) (q 3)) b g c t = q g (ix3 b c t) := by
  unfold grouped
  pointwise [joined]
  have e : (g.val * 128 + c.val) / 256 * 256 + (g.val * 128 + c.val) % 256 = g.val * 128 + c.val := Nat.div_add_mod' _ _
  have hc := c.isLt
  simp only [e]
  match g with
  | 0 =>
    have v : ((0 : Fin 4) : ℕ) = 0 := rfl
    simp only [v]
    rw [dif_pos (by omega)]
    exact congrArg (fun i => q 0 (ix3 b i t)) (Fin.ext (by dsimp only; omega))
  | 1 =>
    have v : ((1 : Fin 4) : ℕ) = 1 := rfl
    simp only [v]
    rw [dif_neg (by omega), dif_pos (by omega)]
    exact congrArg (fun i => q 1 (ix3 b i t)) (Fin.ext (by dsimp only; omega))
  | 2 =>
    have v : ((2 : Fin 4) : ℕ) = 2 := rfl
    simp only [v]
    rw [dif_neg (by omega), dif_neg (by omega), dif_pos (by omega)]
    exact congrArg (fun i => q 2 (ix3 b i t)) (Fin.ext (by dsimp only; omega))
  | 3 =>
    have v : ((3 : Fin 4) : ℕ) = 3 := rfl
    simp only [v]
    rw [dif_neg (by omega), dif_neg (by omega), dif_neg (by omega)]
    exact congrArg (fun i => q 3 (ix3 b i t)) (Fin.ext (by dsimp only; omega))

/-- Every element of an array of the input's shape belongs to a group. -/
theorem exists_grouped (i : S16x2x256x512.Idx) :
    ∃ b g c t, ∀ {α : Type} (x : S16x2x256x512.Idx → α), x i = grouped x b g c t := by
  have h1 : (i 1).val < 2 := (i 1).isLt
  have h2 : (i 2).val < 256 := (i 2).isLt
  refine ⟨i 0, ⟨((i 1).val * 256 + (i 2).val) / 128, by omega⟩, ⟨((i 1).val * 256 + (i 2).val) % 128, by omega⟩, i 3, fun x => ?_⟩
  unfold grouped
  refine congrArg x (funext fun a => ?_)
  match a with
  | 0 => rfl
  | 1 => exact Fin.ext (show (i 1).val = ((((i 1).val * 256 + (i 2).val) / 128) * 128 + ((i 1).val * 256 + (i 2).val) % 128) / 256 by omega)
  | 2 => exact Fin.ext (show (i 2).val = ((((i 1).val * 256 + (i 2).val) / 128) * 128 + ((i 1).val * 256 + (i 2).val) % 128) % 256 by omega)
  | 3 => rfl

/-- The quarter and the codebook of a group. -/
def quarterOf (x : FVec Ideal S16x2x256x512 .f32) : Fin 4 → FVec Ideal S16x128x512 .f32 := ![quarter0 x, quarter1 x, quarter2 x, quarter3 x]
def bookOf (cb : FVec Ideal S4x1024x128 .f32) : Fin 4 → FVec Ideal S1024x128 .f32 := ![book0 cb, book1 cb, book2 cb, book3 cb]

theorem quarterOf_apply (x : FVec Ideal S16x2x256x512 .f32) (b : Fin 16) (g : Fin 4) (c : Fin 128) (t : Fin 512) :
    quarterOf x g (ix3 b c t) = grouped x b g c t := by
  match g with
  | 0 => exact quarter0_apply x b c t
  | 1 => exact quarter1_apply x b c t
  | 2 => exact quarter2_apply x b c t
  | 3 => exact quarter3_apply x b c t

theorem bookOf_apply (cb : FVec Ideal S4x1024x128 .f32) (g : Fin 4) (k : Fin 1024) (c : Fin 128) :
    bookOf cb g (ix2 k c) = cb (ix3 g k c) := by
  match g with
  | 0 => exact book0_apply cb k c
  | 1 => exact book1_apply cb k c
  | 2 => exact book2_apply cb k c
  | 3 => exact book3_apply cb k c

/-- The distances of the vector of group `g` at `b` and `t` to the codewords of that group's codebook. -/
def away (x : FVec Ideal S16x2x256x512 .f32) (cb : FVec Ideal S4x1024x128 .f32) (b : Fin 16) (g : Fin 4) (t : Fin 512) : Fin 1024 → EReal :=
  dist (fun k c => cb (ix3 g k c)) (fun c => grouped x b g c t)

theorem away_eq (x : FVec Ideal S16x2x256x512 .f32) (cb : FVec Ideal S4x1024x128 .f32) (b : Fin 16) (g : Fin 4) (t : Fin 512) :
    dist (fun k c => bookOf cb g (ix2 k c)) (fun c => quarterOf x g (ix3 b c t)) = away x cb b g t := by
  unfold away
  simp only [bookOf_apply, quarterOf_apply]

/-- The second result at a vector with one nearest codeword: that codeword's element. -/
theorem detached_apply (x : FVec Ideal S16x2x256x512 .f32) (cb : FVec Ideal S4x1024x128 .f32) (b : Fin 16) (g : Fin 4) (c : Fin 128)
    (t : Fin 512) (n : Fin 1024) (hn : Alone (away x cb b g t) n) (ht : away x cb b g t n < (⊤ : EReal)) :
    grouped (detached x cb) b g c t = cb (ix3 g n c) := by
  rw [← away_eq] at hn ht
  refine (joined_apply (fun g => quantized (quarterOf x g) (bookOf cb g)) b g c t).trans ?_
  rw [quantized_apply _ _ b t c n hn ht, bookOf_apply]

/-- The first result at a vector with one nearest codeword: the straight-through form of that codeword's element. -/
theorem straight_apply (x : FVec Ideal S16x2x256x512 .f32) (cb : FVec Ideal S4x1024x128 .f32) (b : Fin 16) (g : Fin 4) (c : Fin 128)
    (t : Fin 512) (n : Fin 1024) (hn : Alone (away x cb b g t) n) (ht : away x cb b g t n < (⊤ : EReal)) :
    grouped (straight x cb) b g c t = grouped x b g c t + (cb (ix3 g n c) - grouped x b g c t) := by
  rw [← away_eq] at hn ht
  refine (joined_apply (fun g => through (quarterOf x g) (quantized (quarterOf x g) (bookOf cb g))) b g c t).trans ?_
  show quarterOf x g (ix3 b c t) + (quantized (quarterOf x g) (bookOf cb g) (ix3 b c t) - quarterOf x g (ix3 b c t)) = _
  rw [quantized_apply _ _ b t c n hn ht, bookOf_apply, quarterOf_apply]

end Cert.Proof.Group

end
-- ==== Proof.Conditions.lean ====
/-
  What the conditions of the claims say: a finite input holds real numbers, and a vector marked as having one nearest codeword
  has one.
-/
module

public import proofs.«01_k».proof.Proof.Group
public import proofs.«01_k».proof.Proof.Gen.Pre_separated
public import proofs.«01_k».proof.Proof.Gen.Pre_finite
public import proofs.«01_k».proof.Proof.Gen.On_one_nearest
public import proofs.«01_k».proof.Proof.Gen.On_one_nearest_where_finite
public import Idealize.ShloMosaic.Lib.ReduceAll

@[expose] public section

set_option maxRecDepth 16384

noncomputable section

namespace Cert.Proof.Conditions

open Cert.ReferenceIdeal Cert.ReferenceIdeal.Gen Cert.ReferenceIdeal.Facts
open Idealize.ShloMosaic Idealize.ShloMosaic.Pointwise Cert.Proof.Spec Cert.Proof.Nearest Cert.Proof.Group

/-- Which rows of the distances have exactly one element at the least distance. -/
def single (d : FVec Ideal S8192x1024 .f32) : IVec S8192 1 :=
  cmpi .eq
    (Host.reduce IntOp.addi
      (extui 32
        (cmpf .oeq d
          (broadcastInDim S8192x1024 ![0, 1] bcast_S8192x1_S8192x1024_0_1
            (broadcastInDim S8192x1 ![0] bcast_S8192_S8192x1_0
              (Host.reduce FloatOps.minimumf d (constant S_ .f32 0x7F800000#32) reducesTo_S8192x1024_S8192_d1 h_S_))))
        Cert.On_one_nearest.Gen.facts.natLt_1_32)
      (constantI S_ 32 0#32) reducesTo_S8192x1024_S8192_d1 h_S_)
    (broadcastInDim S8192 ![] bcast_S_S8192 (constantI S_ 32 1#32))

/-- The same, for every element of a quarter. -/
def marked (d : FVec Ideal S8192x1024 .f32) : IVec S16x128x512 1 :=
  broadcastInDim S16x128x512 ![0, 1, 2] Cert.On_one_nearest.Facts.bcast_S16x1x512_S16x128x512_0_1_2
    (shapeCast Cert.On_one_nearest.S16x1x512 (single d) Cert.On_one_nearest.Facts.shapeCasts_S8192_S16x1x512)

/-- A row with exactly one element at the least distance has one that alone is nearest. -/
theorem alone_of_single (d : FVec Ideal S8192x1024 .f32) (r : Fin 8192) (h : single d (ix1 r) = 1#1) :
    ∃ n, Alone (fun k => d (ix2 r k)) n := by
  revert h
  pointwise [single]
  intro h
  refine alone_of_count _ ?_
  exact IntOp.cmpi_eq.1 h

theorem marked_apply (d : FVec Ideal S8192x1024 .f32) (b : Fin 16) (c : Fin 128) (t : Fin 512) :
    marked d (ix3 b c t) = single d (ix1 (row b t)) := by
  pointwise [marked]

/-- Every element's mark, in the layout of the input. -/
def marks (x : FVec Ideal S16x2x256x512 .f32) (cb : FVec Ideal S4x1024x128 .f32) : IVec S16x2x256x512 1 :=
  joined (marked (distances (quarter0 x) (book0 cb))) (marked (distances (quarter1 x) (book1 cb)))
    (marked (distances (quarter2 x) (book2 cb))) (marked (distances (quarter3 x) (book3 cb)))

/-- Which elements of the input are finite. -/
def bounded (x : FVec Ideal S16x2x256x512 .f32) : IVec S16x2x256x512 1 :=
  cmpf .olt (Host.absf x)
    (broadcastInDim S16x2x256x512 ![] Cert.On_one_nearest_where_finite.Facts.bcast_S_S16x2x256x512 (constant S_ .f32 0x7F800000#32))

/-- The plain mask is the marks, for both results. -/
theorem mask_eq (x : FVec Ideal S16x2x256x512 .f32) (cb : FVec Ideal S4x1024x128 .f32) :
    Cert.On_one_nearest.fn x cb = (marks x cb, marks x cb) := rfl

/-- The other mask is the marks, for the first result where the input is finite. -/
theorem mask_where_finite_eq (x : FVec Ideal S16x2x256x512 .f32) (cb : FVec Ideal S4x1024x128 .f32) :
    Cert.On_one_nearest_where_finite.fn x cb = (andi (marks x cb) (bounded x), marks x cb) := rfl

/-- A value whose absolute value is below positive infinity is a real number. -/
theorem real_of_bound (a : EReal) (h : Ideal.cmp .olt (max a (-a)) (Ideal.ofBits .f32 0x7F800000#32) = 1#1) : ∃ r : ℝ, a = (r : EReal) := by
  rw [top_eq] at h
  induction a using EReal.rec with
  | bot => simp [Ideal.cmp] at h
  | top => simp [Ideal.cmp] at h
  | coe r => exact ⟨r, rfl⟩

/-- A finite element is a real number. -/
theorem real_of_bounded (x : FVec Ideal S16x2x256x512 .f32) (i : S16x2x256x512.Idx) (h : bounded x i = 1#1) : ∃ r : ℝ, x i = (r : EReal) :=
  real_of_bound _ h

/-- A finite input is finite at every element. -/
theorem finite_bounded (x : FVec Ideal S16x2x256x512 .f32) (cb : FVec Ideal S4x1024x128 .f32)
    (h : Cert.Pre_finite.fn x cb (fun a => a.elim0) = 1#1) (i : S16x2x256x512.Idx) : bounded x i = 1#1 := by
  have hsub : Subsingleton S_.Idx := ⟨fun p q => funext fun a => a.elim0⟩
  have e : Cert.Pre_finite.fn x cb = Host.reduce IntOp.andi (bounded x) (constantI S_ 1 1#1)
      Cert.Pre_finite.Facts.reducesTo_S16x2x256x512_S_d0_1_2_3 h_S_ := rfl
  rw [e] at h
  exact Host.reduce_andi_all _ _ _ _ _ h i

/-- A marked element's vector has one nearest codeword. -/
theorem alone_of_joined (x : FVec Ideal S16x2x256x512 .f32) (cb : FVec Ideal S4x1024x128 .f32) (b : Fin 16) (g : Fin 4) (t : Fin 512)
    (h : single (distances (quarterOf x g) (bookOf cb g)) (ix1 (row b t)) = 1#1) : ∃ n, Alone (away x cb b g t) n := by
  rw [← away_eq]
  obtain ⟨n, hn⟩ := alone_of_single _ _ h
  simp only [distances_apply] at hn
  exact ⟨n, hn⟩

theorem alone_of_marks (x : FVec Ideal S16x2x256x512 .f32) (cb : FVec Ideal S4x1024x128 .f32) (b : Fin 16) (g : Fin 4) (c : Fin 128)
    (t : Fin 512) (h : grouped (marks x cb) b g c t = 1#1) : ∃ n, Alone (away x cb b g t) n := by
  refine alone_of_joined x cb b g t ?_
  rw [← marked_apply _ b c t]
  exact (joined_apply (fun g => marked (distances (quarterOf x g) (bookOf cb g))) b g c t).symm.trans h

/-- The whole precondition: a finite input, and one nearest codeword for every vector of every group. -/
theorem separated_eq (x : FVec Ideal S16x2x256x512 .f32) (cb : FVec Ideal S4x1024x128 .f32) (q : Fin 4 → IVec S8192 1)
    (hq : q = fun g => single (distances (quarterOf x g) (bookOf cb g))) :
    Cert.Pre_separated.fn x cb =
      andi (andi (andi (andi
        (Cert.Pre_finite.fn x cb)
        (Host.reduce IntOp.andi (q 0) (constantI S_ 1 1#1) Cert.Pre_separated.Facts.reducesTo_S8192_S_d0 h_S_))
        (Host.reduce IntOp.andi (q 1) (constantI S_ 1 1#1) Cert.Pre_separated.Facts.reducesTo_S8192_S_d0 h_S_))
        (Host.reduce IntOp.andi (q 2) (constantI S_ 1 1#1) Cert.Pre_separated.Facts.reducesTo_S8192_S_d0 h_S_))
        (Host.reduce IntOp.andi (q 3) (constantI S_ 1 1#1) Cert.Pre_separated.Facts.reducesTo_S8192_S_d0 h_S_) := by
  subst hq
  rfl

/-- The precondition gives a finite input and, for every vector of every group, a codeword that alone is nearest. -/
theorem separated_alone (x : FVec Ideal S16x2x256x512 .f32) (cb : FVec Ideal S4x1024x128 .f32)
    (h : Cert.Pre_separated.fn x cb (fun a => a.elim0) = 1#1) :
    (∀ i, bounded x i = 1#1) ∧ ∀ b g t, ∃ n, Alone (away x cb b g t) n := by
  rw [separated_eq x cb _ rfl] at h
  obtain ⟨h, h3⟩ := IntOp.andi_eq_one.1 h
  obtain ⟨h, h2⟩ := IntOp.andi_eq_one.1 h
  obtain ⟨h, h1⟩ := IntOp.andi_eq_one.1 h
  obtain ⟨h, h0⟩ := IntOp.andi_eq_one.1 h
  have hsub : Subsingleton S_.Idx := ⟨fun p q => funext fun a => a.elim0⟩
  refine ⟨finite_bounded x cb h, fun b g t => alone_of_joined x cb b g t ?_⟩
  match g with
  | 0 => exact Host.reduce_andi_all _ _ _ _ _ h0 _
  | 1 => exact Host.reduce_andi_all _ _ _ _ _ h1 _
  | 2 => exact Host.reduce_andi_all _ _ _ _ _ h2 _
  | 3 => exact Host.reduce_andi_all _ _ _ _ _ h3 _

end Cert.Proof.Conditions

end
-- ==== Proof.Tie.lean ====
/-
  The kernel's result and the reference's two results, element by element: the same wherever one codeword
  alone is nearest (the first result: and the input is finite).
-/
module

public import proofs.«01_k».proof.Proof.Run
public import proofs.«01_k».proof.Proof.Conditions

@[expose] public section

set_option maxRecDepth 16384

noncomputable section

namespace Cert.Proof.Tie

open Cert.ReferenceIdeal
open Idealize.ShloMosaic Idealize.ShloMosaic.Pointwise Cert.Proof.Spec Cert.Proof.Nearest Cert.Proof.Group Cert.Proof.Conditions Cert.Proof.Run

/-- The kernel's result at an element of a group: the sum over the group's codebook that the vector there selects. -/
theorem result_apply (x : FVec Ideal S16x2x256x512 .f32) (cb : FVec Ideal S4x1024x128 .f32) (b : Fin 16) (g : Fin 4) (c : Fin 128)
    (t : Fin 512) :
    grouped (result x cb) b g c t = column (fun k c => cb (ix3 g k c)) (fun c => grouped x b g c t) c := by
  unfold grouped
  pointwise [result, whole]
  refine column_congr (fun _ _ => rfl) (fun i => ?_) rfl
  have hg := g.isLt
  have hi := i.isLt
  congr 2 <;> exact Fin.ext (by dsimp only; omega)

/-- Where one codeword alone is nearest, the kernel's result is the second result of the reference, and where the input is finite
    too it is the first one. -/
theorem agree (x : FVec Ideal S16x2x256x512 .f32) (cb : FVec Ideal S4x1024x128 .f32) (b : Fin 16) (g : Fin 4) (c : Fin 128)
    (t : Fin 512) (ha : ∃ n, Alone (away x cb b g t) n) :
    ((∃ r : ℝ, grouped x b g c t = (r : EReal)) → grouped (straight x cb) b g c t = grouped (result x cb) b g c t)
      ∧ grouped (detached x cb) b g c t = grouped (result x cb) b g c t := by
  obtain ⟨n, hn⟩ := ha
  have ht := lt_top_of_alone _ n hn
  rw [result_apply, column_eq _ _ c n (alone_gap _ _ n hn)]
  refine ⟨fun ⟨r, hr⟩ => ?_, detached_apply x cb b g c t n hn ht⟩
  rw [straight_apply x cb b g c t n hn ht, hr, through_coe]

/-- The same at a marked element of the input's layout. -/
theorem agree_at (x : FVec Ideal S16x2x256x512 .f32) (cb : FVec Ideal S4x1024x128 .f32) (i : S16x2x256x512.Idx) (h : marks x cb i = 1#1) :
    (bounded x i = 1#1 → straight x cb i = result x cb i) ∧ detached x cb i = result x cb i := by
  obtain ⟨b, g, c, t, e⟩ := exists_grouped i
  have a := agree x cb b g c t (alone_of_marks x cb b g c t ((e _).symm.trans h))
  rw [e (straight x cb), e (detached x cb), e (result x cb)]
  exact ⟨fun hb => a.1 ((e x) ▸ real_of_bounded x i hb), a.2⟩

/-- Where the mask that asks for a finite input is set, the results are equal. -/
theorem agree_where_finite (x : FVec Ideal S16x2x256x512 .f32) (cb : FVec Ideal S4x1024x128 .f32) (i : S16x2x256x512.Idx) :
    ((Cert.On_one_nearest_where_finite.fn x cb).1 i = 1#1 → straight x cb i = result x cb i)
      ∧ ((Cert.On_one_nearest_where_finite.fn x cb).2 i = 1#1 → detached x cb i = result x cb i) := by
  rw [mask_where_finite_eq]
  refine ⟨fun h => ?_, fun h => (agree_at x cb i h).2⟩
  obtain ⟨h1, h2⟩ := IntOp.andi_eq_one.1 h
  exact (agree_at x cb i h1).1 h2

/-- With a finite input, where the plain mask is set, the results are equal. -/
theorem agree_on (x : FVec Ideal S16x2x256x512 .f32) (cb : FVec Ideal S4x1024x128 .f32)
    (hf : Cert.Pre_finite.fn x cb (fun a => a.elim0) = 1#1) (i : S16x2x256x512.Idx) :
    ((Cert.On_one_nearest.fn x cb).1 i = 1#1 → straight x cb i = result x cb i)
      ∧ ((Cert.On_one_nearest.fn x cb).2 i = 1#1 → detached x cb i = result x cb i) := by
  rw [mask_eq]
  exact ⟨fun h => (agree_at x cb i h).1 (finite_bounded x cb hf i), fun h => (agree_at x cb i h).2⟩

/-- With a finite input and no ties anywhere, the kernel's result is both results of the reference. -/
theorem agree_all (x : FVec Ideal S16x2x256x512 .f32) (cb : FVec Ideal S4x1024x128 .f32)
    (hs : Cert.Pre_separated.fn x cb (fun a => a.elim0) = 1#1) : straight x cb = result x cb ∧ detached x cb = result x cb := by
  have h := separated_alone x cb hs
  have at_i : ∀ i, straight x cb i = result x cb i ∧ detached x cb i = result x cb i := fun i => by
    obtain ⟨b, g, c, t, e⟩ := exists_grouped i
    have a := agree x cb b g c t (h.2 b g t)
    rw [e (straight x cb), e (detached x cb), e (result x cb)]
    exact ⟨a.1 ((e x) ▸ real_of_bounded x i (h.1 i)), a.2⟩
  exact ⟨funext fun i => (at_i i).1, funext fun i => (at_i i).2⟩

end Cert.Proof.Tie

end
-- ==== Proof.lean ====
/-
  The certificate: the frames, the preservation of the kernel's values, and the kernel's equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.Pre_finite
public import proofs.«01_k».proof.Proof.Gen.On_one_nearest
public import proofs.«01_k».proof.Proof.Gen.On_one_nearest_where_finite
public import proofs.«01_k».proof.Proof.Ref
public import proofs.«01_k».proof.Proof.Tie
public import Idealize.ShloMosaic.Adequacy
public import Idealize.ShloMosaic.Init

@[expose] public section

noncomputable section

namespace Cert.Proof

open Idealize.ShloMosaic Idealize.SL.Sem

/-- The reference runs, leaves its arguments and ends with every counter at zero. -/
theorem frame_r : Cert.quiescent_ReferenceIdeal := by
  intro m ρ _
  exact (θ_run Cert.ReferenceIdeal.defs _ _).mono (fun r h => ⟨fun c => ⟨(h.1 c).2.2.1, (h.1 c).2.2.2⟩, h.2⟩)
    (Cert.Proof.Ref.run_main m ρ)

/-- With a finite input and no ties, both results are equal as a whole. -/
theorem equal_separated : Cert.algebraic_KernelIdeal_ReferenceIdeal_pre_separated := by
  intro m g m' g' hp ha
  refine ⟨fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Run.run_results m g,
    (θ_run Cert.ReferenceIdeal.defs _ _).mono (fun r h c => ?_) (Ref.run_main m' g')⟩
  obtain ⟨h1, h2, hargs⟩ := h.1 c
  rw [(ha c).1, (ha c).2] at h1 h2
  have e := Tie.agree_all _ _ (congrFun (hp c) _)
  exact ⟨h1.trans e.1, h2.trans e.2, hargs⟩

/-- With a finite input, both results are equal at every element whose vector has one nearest codeword. -/
theorem equal_nearest : Cert.algebraic_KernelIdeal_ReferenceIdeal_on_one_nearest_pre_finite := by
  intro m g m' g' hp ha
  refine ⟨fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun r h c => ?_) (Run.run_results m g),
    (θ_run Cert.ReferenceIdeal.defs _ _).mono (fun r h c => ?_) (Ref.run_main m' g')⟩
  · obtain ⟨h1, h2, hargs⟩ := h c
    exact ⟨fun i _ => congrFun h1 i, fun i _ => congrFun h2 i, hargs⟩
  · obtain ⟨h1, h2, hargs⟩ := h.1 c
    rw [(ha c).1, (ha c).2] at h1 h2
    have e := Tie.agree_on _ _ (congrFun (hp c) _)
    exact ⟨fun i hi => (congrFun h1 i).trans ((e i).1 hi), fun i hi => (congrFun h2 i).trans ((e i).2 hi), hargs⟩

/-- For any arguments, at every element whose vector has one nearest codeword the second results are equal, and the first ones
    where the input is finite too. -/
theorem equal_where_finite : Cert.algebraic_KernelIdeal_ReferenceIdeal_on_one_nearest_where_finite := by
  intro m g m' g' _ ha
  refine ⟨fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun r h c => ?_) (Run.run_results m g),
    (θ_run Cert.ReferenceIdeal.defs _ _).mono (fun r h c => ?_) (Ref.run_main m' g')⟩
  · obtain ⟨h1, h2, hargs⟩ := h c
    exact ⟨fun i _ => congrFun h1 i, fun i _ => congrFun h2 i, hargs⟩
  · obtain ⟨h1, h2, hargs⟩ := h.1 c
    rw [(ha c).1, (ha c).2] at h1 h2
    have e := Tie.agree_where_finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
    exact ⟨fun i hi => (congrFun h1 i).trans ((e i).1 hi), fun i hi => (congrFun h2 i).trans ((e i).2 hi), hargs⟩

/-- Every claim, with the side conditions of its programs and predicates. -/
theorem claim : Cert.Claim :=
  ⟨Cert.Kernel.Gen.facts, Cert.KernelIdeal.Gen.facts, Cert.ReferenceIdeal.Gen.facts, Cert.Pre_separated.Gen.facts,
    Cert.Pre_finite.Gen.facts, Cert.On_one_nearest.Gen.facts, Cert.On_one_nearest_where_finite.Gen.facts,
    fun m ρ _ => Cert.Kernel.Gen.frame m ρ, fun m ρ _ => Cert.KernelIdeal.Gen.frame m ρ,
    fun m ρ _ => Cert.KernelIdeal.Gen.frame m ρ, fun m ρ _ => Cert.KernelIdeal.Gen.frame m ρ, frame_r, fun m ρ _ => frame_r m ρ trivial, fun m ρ _ => frame_r m ρ trivial, trivial,
    equal_separated, equal_nearest, equal_where_finite⟩

end Cert.Proof

end
